-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2x8192x12 : Shape := ⟨4, ![8, 2, 8192, 12]⟩
abbrev S1x8192x8192 : Shape := ⟨3, ![1, 8192, 8192]⟩
abbrev S2x4 : Shape := ⟨2, ![2, 4]⟩
abbrev S2 : Shape := ⟨1, ![2]⟩
abbrev S8192x8192 : Shape := ⟨2, ![8192, 8192]⟩
abbrev S16x8192x12 : Shape := ⟨3, ![16, 8192, 12]⟩
abbrev S2x1 : Shape := ⟨2, ![2, 1]⟩
abbrev S2x5 : Shape := ⟨2, ![2, 5]⟩
abbrev S16x1024x12 : Shape := ⟨3, ![16, 1024, 12]⟩
abbrev S1024x1024 : Shape := ⟨2, ![1024, 1024]⟩
abbrev S8x192x1024 : Shape := ⟨3, ![8, 192, 1024]⟩
abbrev S192x1024 : Shape := ⟨2, ![192, 1024]⟩
abbrev S1x1024x12 : Shape := ⟨3, ![1, 1024, 12]⟩
abbrev S1024x12 : Shape := ⟨2, ![1024, 12]⟩
abbrev S12x1024 : Shape := ⟨2, ![12, 1024]⟩
abbrev S1x192x1024 : Shape := ⟨3, ![1, 192, 1024]⟩
abbrev S96x1024 : Shape := ⟨2, ![96, 1024]⟩
abbrev S1x1 : Shape := ⟨2, ![1, 1]⟩

abbrev nBuf : Space → Nat
  | .hbm => 10
  | .vmem => 8
  | .smem => 1
  | _ => 0

abbrev bufTy : (tb : Table) → Fin (tcTables nBuf tb) → BufTy
  | .hbm, ⟨0, _⟩ => ⟨S8x2x8192x12, .f32⟩
  | .hbm, ⟨1, _⟩ => ⟨S1x8192x8192, .f32⟩
  | .hbm, ⟨2, _⟩ => ⟨S2x4, .f32⟩
  | .hbm, ⟨3, _⟩ => ⟨S2, .f32⟩
  | .hbm, ⟨4, _⟩ => ⟨S8192x8192, .f32⟩
  | .hbm, ⟨5, _⟩ => ⟨S16x8192x12, .f32⟩
  | .hbm, ⟨6, _⟩ => ⟨S2x1, .f32⟩
  | .hbm, ⟨7, _⟩ => ⟨S2x5, .f32⟩
  | .hbm, ⟨8, _⟩ => ⟨S16x8192x12, .f32⟩
  | .hbm, ⟨9, _⟩ => ⟨S8x2x8192x12, .f32⟩
  | .local _ .vmem, ⟨0, _⟩ => ⟨S16x1024x12, .f32⟩
  | .local _ .vmem, ⟨1, _⟩ => ⟨S16x1024x12, .f32⟩
  | .local _ .vmem, ⟨2, _⟩ => ⟨S1024x1024, .f32⟩
  | .local _ .vmem, ⟨3, _⟩ => ⟨S1024x1024, .f32⟩
  | .local _ .vmem, ⟨4, _⟩ => ⟨S16x1024x12, .f32⟩
  | .local _ .vmem, ⟨5, _⟩ => ⟨S16x1024x12, .f32⟩
  | .local _ .vmem, ⟨6, _⟩ => ⟨S8x192x1024, .f32⟩
  | .local _ .vmem, ⟨7, _⟩ => ⟨S192x1024, .f32⟩
  | .local _ .smem, ⟨0, _⟩ => ⟨S2x5, .f32⟩
  | _, _ => ⟨S8x2x8192x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg1 : BitVec 32 := BitVec.ofNat 32 (i 1).val
  let v75 : Index := Scalar.indexCast arg1
  let c0_14 : Index := 0#32
  let c0_15 : Index := 0#32
  ![v75.toNat, 0, 0]
def k0_off2 (i : grid0.Coords) : Fin 3 → Nat :=
  let arg1 : BitVec 32 := BitVec.ofNat 32 (i 1).val
  let v3 : Index := Scalar.indexCast arg1
  let c0 : Index := 0#32
  let c0_1 : Index := 0#32
  ![v3.toNat, 0, 0]
def k0_cond4 (i : grid0.Coords) : BitVec 1 :=
  let arg1 : BitVec 32 := BitVec.ofNat 32 (i 1).val
  let c7_i32 : BitVec 32 := 7#32
  let v21 : BitVec 1 := Scalar.cmpi .eq arg1 c7_i32
  let v22 : BitVec 32 := Scalar.extui v21
  let c0_i32_10 : BitVec 32 := 0#32
  let v23 : BitVec 1 := Scalar.cmpi .ne v22 c0_i32_10
  v23

def k0_off3 (i : grid0.Coords) : Fin 3 → Nat :=
  let arg0 : BitVec 32 := BitVec.ofNat 32 (i 0).val
  let v24 : Index := Scalar.indexCast arg0
  let c0_11 : Index := 0#32
  let c0_12 : Index := 0#32
  ![v24.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  let c0_i32_2 : BitVec 32 := 0#32
  ![c0_i32_0.toNat, v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S16x1024x12 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .smem S2x5 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S16x1024x12 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ReferenceIdeal.lean ====
abbrev S8x2x8192x12 : Shape := ⟨4, ![8, 2, 8192, 12]⟩
abbrev S1x8192x8192 : Shape := ⟨3, ![1, 8192, 8192]⟩
abbrev S2x4 : Shape := ⟨2, ![2, 4]⟩
abbrev S2 : Shape := ⟨1, ![2]⟩
abbrev S_ : Shape := ⟨0, ![]⟩
abbrev S8192x8192 : Shape := ⟨2, ![8192, 8192]⟩
abbrev S8192x8x2x12 : Shape := ⟨4, ![8192, 8, 2, 12]⟩
abbrev S8x4x8192x12 : Shape := ⟨4, ![8, 4, 8192, 12]⟩
abbrev S8x8192x12x4 : Shape := ⟨4, ![8, 8192, 12, 4]⟩
abbrev S4x2 : Shape := ⟨2, ![4, 2]⟩
abbrev S8x8192x12x2 : Shape := ⟨4, ![8, 8192, 12, 2]⟩
abbrev S1x1x1x2 : Shape := ⟨4, ![1, 1, 1, 2]⟩

abbrev nBuf : Space → Nat
  | .hbm => 23
  | .vmem => 0
  | .smem => 0
  | _ => 0

abbrev bufTy : (tb : Table) → Fin (tcTables nBuf tb) → BufTy
  | .hbm, ⟨0, _⟩ => ⟨S8x2x8192x12, .f32⟩
  | .hbm, ⟨1, _⟩ => ⟨S1x8192x8192, .f32⟩
  | .hbm, ⟨2, _⟩ => ⟨S2x4, .f32⟩
  | .hbm, ⟨3, _⟩ => ⟨S2, .f32⟩
  | .hbm, ⟨4, _⟩ => ⟨S_, .f32⟩
  | .hbm, ⟨5, _⟩ => ⟨S8x2x8192x12, .f32⟩
  | .hbm, ⟨6, _⟩ => ⟨S8x2x8192x12, .i1⟩
  | .hbm, ⟨7, _⟩ => ⟨S_, .f32⟩
  | .hbm, ⟨8, _⟩ => ⟨S_, .f32⟩
  | .hbm, ⟨9, _⟩ => ⟨S8x2x8192x12, .f32⟩
  | .hbm, ⟨10, _⟩ => ⟨S8x2x8192x12, .f32⟩
  | .hbm, ⟨11, _⟩ => ⟨S8192x8192, .f32⟩
  | .hbm, ⟨12, _⟩ => ⟨S8192x8x2x12, .f32⟩
  | .hbm, ⟨13, _⟩ => ⟨S8x2x8192x12, .f32⟩
  | .hbm, ⟨14, _⟩ => ⟨S8x4x8192x12, .f32⟩
  | .hbm, ⟨15, _⟩ => ⟨S8x8192x12x4, .f32⟩
  | .hbm, ⟨16, _⟩ => ⟨S4x2, .f32⟩
  | .hbm, ⟨17, _⟩ => ⟨S8x8192x12x2, .f32⟩
  | .hbm, ⟨18, _⟩ => ⟨S1x1x1x2, .f32⟩
  | .hbm, ⟨19, _⟩ => ⟨S8x8192x12x2, .f32⟩
  | .hbm, ⟨20, _⟩ => ⟨S8x8192x12x2, .f32⟩
  | .hbm, ⟨21, _⟩ => ⟨S8x2x8192x12, .f32⟩
  | .hbm, ⟨22, _⟩ => ⟨S8x2x8192x12, .f32⟩
  | _, _ => ⟨S8x2x8192x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== Proof.Body.lean ====
module

public import proofs.«01_k».proof.Proof.Gen.KernelIdeal.Frame
public import proofs.«01_k».proof.Proof.Gen.KernelIdeal.Skeleton
public import Idealize.ShloMosaic.Lib.VecWindow

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body starts the accumulator at this point (the first chunk). -/
abbrev starts (i : grid0.Coords) : Prop := (Scalar.cmpi .ne (Scalar.extui (Scalar.cmpi .eq (BitVec.ofNat 32 (i 1).val) 0#32)) 0#32) = 1#1
/-- The body adds into the accumulator at this point (any later chunk). -/
abbrev adds (i : grid0.Coords) : Prop := (Scalar.cmpi .ne (Scalar.extui (Scalar.cmpi .ne (BitVec.ofNat 32 (i 1).val) 0#32)) 0#32) = 1#1

/-- The grid point's row: the block of the result it works on. -/
def row (i : grid0.Coords) : Fin 8 := i 0
/-- The grid point's column: the chunk of the nodes it works on. -/
def col (i : grid0.Coords) : Fin 8 := i 1

/-- Chunk `j` of the transposed copy of `x`. -/
def slab (X : S8x192x1024.Idx → Elt F .f32) (j : Fin 8) : S1x192x1024.Idx → Elt F .f32 :=
  VecWindow.window X ![j.val, 0, 0] S1x192x1024.size (by intro a; have := j.isLt; match a with | 0 => (show j.val + 1 ≤ 8; omega) | 1 => exact Nat.le_refl 192 | 2 => exact Nat.le_refl 1024)
/-- The transposed copy of `x` with chunk `j` overwritten. -/
def putSlab (X : S8x192x1024.Idx → Elt F .f32) (j : Fin 8) (w : S1x192x1024.Idx → Elt F .f32) : S8x192x1024.Idx → Elt F .f32 :=
  VecWindow.put X ![j.val, 0, 0] S1x192x1024.size w

/-- A slab just stored is read back. -/
theorem slab_putSlab (X : S8x192x1024.Idx → Elt F .f32) (j : Fin 8) (w : S1x192x1024.Idx → Elt F .f32) : slab (putSlab X j w) j = w :=
  VecWindow.window_put_same ..

/-- The same at the chunk the kernel stores. -/
theorem slab_putSlab_pay5 (X : S8x192x1024.Idx → Elt F .f32) (j : Fin 8) (x0 : S16x1024x12.Idx → Elt F .f32) : slab (putSlab X j (k0_pay5 x0)) j = k0_pay5 x0 :=
  slab_putSlab X j (k0_pay5 x0)

/-- Storing one slab leaves the others. -/
theorem slab_putSlab_ne (X : S8x192x1024.Idx → Elt F .f32) (j k : Fin 8) (h : k ≠ j) (w : S1x192x1024.Idx → Elt F .f32) : slab (putSlab X j w) k = slab X k :=
  VecWindow.window_put_of_disjoint X _ _ _ _ _ w (0 : Fin 3) (by
    show k.val + 1 ≤ j.val ∨ j.val + 1 ≤ k.val
    have : k.val ≠ j.val := fun e => h (Fin.ext e)
    omega)

/-- The transposed copy of `x` after a point: at the first row of the grid the point's own chunk is stored. -/
def xtfAfter (i : grid0.Coords) (x0 : S16x1024x12.Idx → Elt F .f32) (X : S8x192x1024.Idx → Elt F .f32) : S8x192x1024.Idx → Elt F .f32 :=
  if k0_cond1 i = 1#1 then putSlab X (col i) (k0_pay5 x0) else X
/-- The accumulator after a point that reads chunk `S` and the block `x1` of the adjacency. -/
def accAfter (i : grid0.Coords) (S : S1x192x1024.Idx → Elt F .f32) (x1 : S1024x1024.Idx → Elt F .f32) (Y : S192x1024.Idx → Elt F .f32) : S192x1024.Idx → Elt F .f32 :=
  if starts i then k0_pay2 S x1 else k0_pay3 S x1 Y
/-- A word of the parameter table. -/
def word (x2 : S2x5.Idx → Elt F .f32) (off : Fin 2 → ℕ) (inb : ∀ a, off a + S1x1.size a ≤ S2x5.size a) : Elt F .f32 :=
  VecWindow.window x2 off S1x1.size inb (Shape.Idx.first (Nat.lt_of_lt_of_eq Nat.one_pos numel1_S1x1.symm))

/-- The values the last chunk's point combines, before they are interleaved for the store. -/
def mixVal {α : Type} (S : S1x192x1024.Idx → Elt F .f32) (Y : S192x1024.Idx → Elt F .f32) (x2 : S2x5.Idx → Elt F .f32)
    (k : IVec S192x1024 1 → FVec F S192x1024 .f32 → FVec F S96x1024 .f32 → FVec F S96x1024 .f32 → FVec F S96x1024 .f32 → FVec F S96x1024 .f32 → Elt F .f32 → Elt F .f32 → Elt F .f32 → α) : α :=
  k (k0_pay7 S) (k0_pay8 S) (k0_pay11 Y) (k0_pay12 Y)
    (k0_pay13 S Y (word x2 ![0, 0] inb_S2x5_S1x1_0_0) (word x2 ![0, 1] inb_S2x5_S1x1_0_1) (word x2 ![0, 2] inb_S2x5_S1x1_0_2) (word x2 ![0, 3] inb_S2x5_S1x1_0_3) (word x2 ![0, 4] inb_S2x5_S1x1_0_4))
    (k0_pay14 S (word x2 ![1, 0] inb_S2x5_S1x1_1_0) (word x2 ![1, 1] inb_S2x5_S1x1_1_1)) (word x2 ![1, 2] inb_S2x5_S1x1_1_2) (word x2 ![1, 3] inb_S2x5_S1x1_1_3) (word x2 ![1, 4] inb_S2x5_S1x1_1_4)

/-- The block of the result the last chunk's point stores. -/
def outVal (S : S1x192x1024.Idx → Elt F .f32) (Y : S192x1024.Idx → Elt F .f32) (x2 : S2x5.Idx → Elt F .f32) : S16x1024x12.Idx → Elt F .f32 :=
  mixVal S Y x2 fun a b c d e f g h k =>
    k0_pay4 (k0_pay16 a b c d e f g h k) (k0_pay17 a b c d e f g h k) (k0_pay18 a b c d e f g h k) (k0_pay19 a b c d e f g h k)
      (k0_pay20 a b c d e f g h k) (k0_pay21 a b c d e f g h k) (k0_pay22 a b c d e f g h k) (k0_pay23 a b c d e f g h k)
      (k0_pay24 a b c d e f g h k) (k0_pay25 a b c d e f g h k) (k0_pay26 a b c d e f g h k) (k0_pay27 a b c d e f g h k)
      (k0_pay28 a b c d e f g h k) (k0_pay29 a b c d e f g h k) (k0_pay30 a b c d e f g h k) (k0_pay31 a b c d e f g h k)

section Reads
variable {κ : Kind} {sp : Space}

/-- A load at the point's own chunk reads that chunk. -/
theorem readAt_off2 (v : View sig κ sp S8x192x1024 .f32) (f : v.ty.Contents (Elt F)) (i : grid0.Coords) (inb : ∀ a, k0_off2 i a + (![1, 192, 1024] : Fin 3 → ℕ) a ≤ S8x192x1024.size a) :
    v.readAt (Elt F) (Rect.unit (k0_off2 i) ![1, 192, 1024] inb).toLoadRect f = slab (v.read (Elt F) f) (col i) :=
  View.readAt_unit v f inb (k0_off2_eq i) _
/-- A load at the chunk of the row's output block reads that chunk. -/
theorem readAt_off3 (v : View sig κ sp S8x192x1024 .f32) (f : v.ty.Contents (Elt F)) (i : grid0.Coords) (inb : ∀ a, k0_off3 i a + (![1, 192, 1024] : Fin 3 → ℕ) a ≤ S8x192x1024.size a) :
    v.readAt (Elt F) (Rect.unit (k0_off3 i) ![1, 192, 1024] inb).toLoadRect f = slab (v.read (Elt F) f) (row i) :=
  View.readAt_unit v f inb (k0_off3_eq i) _
/-- A store at the point's own chunk overwrites that chunk. -/
theorem read_off1 (v : View sig κ sp S8x192x1024 .f32) (f : v.ty.Contents (Elt F)) (i : grid0.Coords) (inb : ∀ a, k0_off1 i a + (![1, 192, 1024] : Fin 3 → ℕ) a ≤ S8x192x1024.size a)
    (w : S1x192x1024.Idx → Elt F .f32) (L : List (View.Piece (Elt F) S8x192x1024 .f32)) :
    v.read (Elt F) (v.writes (Elt F) f (⟨Rect.unit (k0_off1 i) ![1, 192, 1024] inb, w⟩ :: L)) = putSlab (v.read (Elt F) (v.writes (Elt F) f L)) (col i) w :=
  View.read_writes_cons_put v f inb w L (k0_off1_eq i)
/-- A whole load of the block of `x`. -/
theorem readAt_x (v : View sig κ sp S16x1024x12 .f32) (f : v.ty.Contents (Elt F)) (inb : ∀ a, (![0, 0, 0] : Fin 3 → ℕ) a + (![16, 1024, 12] : Fin 3 → ℕ) a ≤ S16x1024x12.size a) :
    v.readAt (Elt F) (Rect.unit ![0, 0, 0] ![16, 1024, 12] inb).toLoadRect f = v.read (Elt F) f := View.readAt_full v f inb
/-- A whole store of the block of the result. -/
theorem read_x (v : View sig κ sp S16x1024x12 .f32) (f : v.ty.Contents (Elt F)) (inb : ∀ a, (![0, 0, 0] : Fin 3 → ℕ) a + (![16, 1024, 12] : Fin 3 → ℕ) a ≤ S16x1024x12.size a)
    (w : S16x1024x12.Idx → Elt F .f32) (L : List (View.Piece (Elt F) S16x1024x12 .f32)) :
    v.read (Elt F) (v.writes (Elt F) f (⟨Rect.unit ![0, 0, 0] ![16, 1024, 12] inb, w⟩ :: L)) = w := View.read_writes_full v f inb w L
/-- A whole load of the block of the adjacency. -/
theorem readAt_a (v : View sig κ sp S1024x1024 .f32) (f : v.ty.Contents (Elt F)) (inb : ∀ a, (![0, 0] : Fin 2 → ℕ) a + (![1024, 1024] : Fin 2 → ℕ) a ≤ S1024x1024.size a) :
    v.readAt (Elt F) (Rect.unit ![0, 0] ![1024, 1024] inb).toLoadRect f = v.read (Elt F) f := View.readAt_full v f inb
/-- A whole load of the accumulator. -/
theorem readAt_acc (v : View sig κ sp S192x1024 .f32) (f : v.ty.Contents (Elt F)) (inb : ∀ a, (![0, 0] : Fin 2 → ℕ) a + (![192, 1024] : Fin 2 → ℕ) a ≤ S192x1024.size a) :
    v.readAt (Elt F) (Rect.unit ![0, 0] ![192, 1024] inb).toLoadRect f = v.read (Elt F) f := View.readAt_full v f inb
/-- A whole store of the accumulator. -/
theorem read_acc (v : View sig κ sp S192x1024 .f32) (f : v.ty.Contents (Elt F)) (inb : ∀ a, (![0, 0] : Fin 2 → ℕ) a + (![192, 1024] : Fin 2 → ℕ) a ≤ S192x1024.size a)
    (w : S192x1024.Idx → Elt F .f32) (L : List (View.Piece (Elt F) S192x1024 .f32)) :
    v.read (Elt F) (v.writes (Elt F) f (⟨Rect.unit ![0, 0] ![192, 1024] inb, w⟩ :: L)) = w := View.read_writes_full v f inb w L

/-- A word of the parameter table, loaded. -/
theorem readAt_word (v : View sig κ sp S2x5 .f32) (f : v.ty.Contents (Elt F)) (off : Fin 2 → ℕ) (inb : ∀ a, off a + (![1, 1] : Fin 2 → ℕ) a ≤ S2x5.size a) (h) :
    v.readAt (Elt F) (Rect.unit off ![1, 1] inb).toLoadRect f (Shape.Idx.first h) = word (v.read (Elt F) f) off inb := rfl

end Reads

set_option maxHeartbeats 2000000 in
/-- The body at a point, its buffers whole and at any contents: it returns the inputs' buffers unchanged and the scratch and result buffers at the contents stated. -/
theorem run (c : Dev nD) (i : grid0.Coords) (arg2 : Memref sig .tc .vmem S16x1024x12 .f32) (harg2 : arg2.IsWhole) (arg3 : Memref sig .tc .vmem S1024x1024 .f32) (harg3 : arg3.IsWhole) (arg4 : Memref sig .tc .smem S2x5 .f32) (harg4 : arg4.IsWhole) (arg5 : Memref sig .tc .vmem S16x1024x12 .f32) (harg5 : arg5.IsWhole) (arg6 : Memref sig .tc .vmem S8x192x1024 .f32) (harg6 : arg6.IsWhole) (arg7 : Memref sig .tc .vmem S192x1024 .f32) (harg7 : arg7.IsWhole)
    (x0 : S16x1024x12.Idx → Elt F .f32) (x1 : S1024x1024.Idx → Elt F .f32) (x2 : S2x5.Idx → Elt F .f32) (x3 : S16x1024x12.Idx → Elt F .f32) (X : S8x192x1024.Idx → Elt F .f32) (Y : S192x1024.Idx → Elt F .f32)
    (hst : (starts i ∧ ¬ adds i) ∨ (¬ starts i ∧ adds i)) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare X ∗ owns (c : Thread nD τ) arg7 fullShare Y
      ∗ (iprop(owns (c : Thread nD τ) arg2 fullShare x0 ∗ owns (c : Thread nD τ) arg3 fullShare x1 ∗ owns (c : Thread nD τ) arg4 fullShare x2 ∗ owns (c : Thread nD τ) arg5 fullShare (if k0_cond4 i = 1#1 then outVal (slab (xtfAfter i x0 X) (row i)) (accAfter i (slab (xtfAfter i x0 X) (col i)) x1 Y) x2 else x3) ∗ owns (c : Thread nD τ) arg6 fullShare (xtfAfter i x0 X) ∗ owns (c : Thread nD τ) arg7 fullShare (accAfter i (slab (xtfAfter i x0 X) (col i)) x1 Y)) -∗ K ⟨⟩))
      ⊢ wp frame (wpE (defs₀ (F := F)) Variants.none c none) E (cc0__body i arg2 harg2 arg3 harg3 arg4 harg4 arg5 harg5 arg6 harg6 arg7 harg7) K := by
  simp only [cc0__body_eq_skeleton]; unfold cc0__body_skel; simp only [k0_part1_eq_skeleton, k0_part2_eq_skeleton, k0_part3_eq_skeleton]; unfold k0_part1_skel k0_part2_skel k0_part3_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  by_cases hc1 : k0_cond1 i = 1#1 <;> by_cases hc4 : k0_cond4 i = 1#1 <;> obtain ⟨hc2, hc3⟩ | ⟨hc2, hc3⟩ := hst
  all_goals
    sl_exec (disch := first | sl_exact hc1 | sl_exact hc2 | sl_exact hc3 | sl_exact hc4)
    sl_step
    iapply Hk
    isplitl [H0]; · iexists _; isplitr; · ipureintro; exact harg2.read_unread _
                    iexact H0
    isplitl [H1]; · iexists _; isplitr; · ipureintro; exact harg3.read_unread _
                    iexact H1
    isplitl [H2]; · iexists _; isplitr; · ipureintro; exact harg4.read_unread _
                    iexact H2
    isplitl [H3]
    · iexists _; isplitr; swap
      · iexact H3
      ipureintro
      sl_unfold_run_names
      simp only [View.readCov, readAt_word, readAt_off2, readAt_off3, read_off1, readAt_x, read_x, readAt_a, readAt_acc, read_acc, View.writes_nil, hf0, hf1, hf2, hf3, hf4, hf5]
      first
        | simp only [outVal, mixVal, accAfter, xtfAfter, hc1, if_neg hc2, hc4, if_true, if_false, slab_putSlab_pay5]
        | simp only [outVal, mixVal, accAfter, xtfAfter, hc1, if_pos hc2, hc4, if_true, if_false, slab_putSlab_pay5]
    isplitl [H4]
    · iexists _; isplitr; swap
      · iexact H4
      ipureintro
      sl_unfold_run_names
      simp only [View.readCov, read_off1, readAt_x, View.writes_nil, hf0, hf4]
      simp only [xtfAfter, hc1, if_true, if_false]
    iexists _; isplitr; swap
    · iexact H5
    ipureintro
    sl_unfold_run_names
    simp only [View.readCov, readAt_off2, readAt_off3, read_off1, readAt_x, readAt_a, readAt_acc, read_acc, View.writes_nil, hf0, hf1, hf4, hf5]
    first
      | simp only [accAfter, xtfAfter, hc1, if_neg hc2, if_true, if_false, slab_putSlab_pay5]
      | simp only [accAfter, xtfAfter, hc1, if_pos hc2, if_true, if_false, slab_putSlab_pay5]

end Cert.KernelIdeal.Body
-- ==== Proof.Invariant.lean ====
module

public import proofs.«01_k».proof.Proof.Body

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid points: row `t / 8`, column `t % 8` -/

/-- There are 64 points. -/
theorem lt_N (t : Fin cfg0.N) : t.val < 64 := Nat.lt_of_lt_of_eq t.isLt N_0

/-- A point's row. -/
theorem row_coords (t : Fin cfg0.N) : (row (grid0.coords t)).val = t.val / 8 := by
  have e : (grid0.coords t 0).val = t.val / 8 % 8 := Pipeline.Grid.coords_val t 0 (by decide) rfl
  have := lt_N t
  unfold row
  omega

/-- A point's column. -/
theorem col_coords (t : Fin cfg0.N) : (col (grid0.coords t)).val = t.val % 8 := by
  have e : (grid0.coords t 1).val = t.val / 1 % 8 := Pipeline.Grid.coords_val t 1 (by decide) rfl
  unfold col
  omega

/-- The body stores a chunk of the transposed copy exactly at the first row. -/
theorem stores_iff : ∀ i : grid0.Coords, k0_cond1 i = 1#1 ↔ (row i).val = 0 := by decide +kernel
/-- The body starts the accumulator exactly at the first column. -/
theorem starts_iff : ∀ i : grid0.Coords, starts i ↔ (col i).val = 0 := by decide +kernel
/-- The body adds into the accumulator exactly at the other columns. -/
theorem adds_iff : ∀ i : grid0.Coords, adds i ↔ (col i).val ≠ 0 := by decide +kernel
/-- The body stores the result exactly at the last column. -/
theorem ends_iff : ∀ i : grid0.Coords, k0_cond4 i = 1#1 ↔ (col i).val = 7 := by decide +kernel

/-- At every point the body either starts the accumulator or adds to it. -/
theorem starts_or_adds (i : grid0.Coords) : (starts i ∧ ¬ adds i) ∨ (¬ starts i ∧ adds i) := by
  rw [starts_iff, adds_iff]; omega

/-! ## What the two scratch buffers hold -/

/-- The grid point of number `n`. -/
def pt (n : ℕ) : Fin cfg0.N := ⟨n % 64, Nat.lt_of_lt_of_eq (Nat.mod_lt _ (by decide)) N_0.symm⟩

/-- A point is the point of its number. -/
theorem pt_val (t : Fin cfg0.N) : pt t.val = t := Fin.ext (Nat.mod_eq_of_lt (lt_N t))

/-- Chunk `j` of the transposed copy of `x`: what the first row's point `j` stores. -/
def chunk (c : Dev nD) (j : ℕ) : S1x192x1024.Idx → Elt F .f32 := k0_pay5 (iblk m c 0 (pt j))

/-- The accumulator after point `n`. -/
def accAt (c : Dev nD) : ℕ → S192x1024.Idx → Elt F .f32
  | 0 => k0_pay2 (chunk m c 0) (iblk m c 1 (pt 0))
  | n + 1 => if (n + 1) % 8 = 0 then k0_pay2 (chunk m c ((n + 1) % 8)) (iblk m c 1 (pt (n + 1)))
      else k0_pay3 (chunk m c ((n + 1) % 8)) (iblk m c 1 (pt (n + 1))) (accAt c n)

/-- At the first column the accumulator is the first chunk's product. -/
theorem accAt_start (c : Dev nD) (n : ℕ) (h : n % 8 = 0) : accAt m c n = k0_pay2 (chunk m c (n % 8)) (iblk m c 1 (pt n)) := by
  cases n with
  | zero => rfl
  | succ n => rw [accAt, if_pos h]

/-- At another column it is the last accumulator and the chunk's product. -/
theorem accAt_add (c : Dev nD) (n : ℕ) (h : n % 8 ≠ 0) : accAt m c n = k0_pay3 (chunk m c (n % 8)) (iblk m c 1 (pt n)) (accAt m c (n - 1)) := by
  cases n with
  | zero => exact absurd rfl h
  | succ n => rw [accAt, if_neg h]; rfl

/-- The block of the result stored at point `n` of the last column. -/
def outAt (c : Dev nD) (n : ℕ) : S16x1024x12.Idx → Elt F .f32 := outVal (chunk m c (n / 8)) (accAt m c n) (iblk m c 2 (pt n))

/-- What is known of the scratch buffers before point `n`: the chunks of the points passed, and the last accumulator. -/
def Good (c : Dev nD) (n : ℕ) (X : S8x192x1024.Idx → Elt F .f32) (Y : S192x1024.Idx → Elt F .f32) : Prop :=
  (∀ j : Fin 8, j.val < n → slab X j = chunk m c j.val) ∧ (n ≠ 0 → Y = accAt m c (n - 1))

/-- Before the first point nothing is asked of the scratch buffers. -/
theorem good_zero (c : Dev nD) (X : S8x192x1024.Idx → Elt F .f32) (Y : S192x1024.Idx → Elt F .f32) : Good m c 0 X Y :=
  ⟨fun _ h => absurd h (Nat.not_lt_zero _), fun h => absurd rfl h⟩

/-- After a point every chunk up to the point's own is there. -/
theorem slab_after (c : Dev nD) (t : Fin cfg0.N) (X : S8x192x1024.Idx → Elt F .f32)
    (hX : ∀ j : Fin 8, j.val < t.val → slab X j = chunk m c j.val) (j : Fin 8) (hj : j.val < t.val + 1) :
    slab (xtfAfter (grid0.coords t) (iblk m c 0 t) X) j = chunk m c j.val := by
  have hr := row_coords t
  have hc := col_coords t
  have hN := lt_N t
  unfold xtfAfter
  by_cases h : k0_cond1 (grid0.coords t) = 1#1
  · rw [if_pos h]
    rw [stores_iff] at h
    by_cases e : j = col (grid0.coords t)
    · have hjt : j.val = t.val := by rw [e]; omega
      subst e
      rw [slab_putSlab_pay5, chunk, hjt, pt_val]
    · rw [slab_putSlab_ne _ _ _ e]
      refine hX j ?_
      have : j.val ≠ (col (grid0.coords t)).val := fun h' => e (Fin.ext h')
      omega
  · rw [if_neg h]
    rw [stores_iff] at h
    have := j.isLt
    exact hX j (by omega)

/-- The accumulator after a point. -/
theorem acc_after (c : Dev nD) (t : Fin cfg0.N) (S : S1x192x1024.Idx → Elt F .f32) (hS : S = chunk m c (t.val % 8)) (Y : S192x1024.Idx → Elt F .f32)
    (hY : t.val ≠ 0 → Y = accAt m c (t.val - 1)) :
    accAfter (grid0.coords t) S (iblk m c 1 t) Y = accAt m c t.val := by
  have hc := col_coords t
  unfold accAfter
  by_cases h : starts (grid0.coords t)
  · rw [if_pos h]
    rw [starts_iff, hc] at h
    rw [accAt_start m c _ h, hS, pt_val]
  · rw [if_neg h]
    rw [starts_iff, hc] at h
    rw [accAt_add m c _ h, hS, pt_val, hY (fun e => h (by rw [e]))]

/-- The invariant is kept by a point. -/
theorem good_succ (c : Dev nD) (t : Fin cfg0.N) (X : S8x192x1024.Idx → Elt F .f32) (Y : S192x1024.Idx → Elt F .f32) (h : Good m c t.val X Y) :
    Good m c (t.val + 1) (xtfAfter (grid0.coords t) (iblk m c 0 t) X)
      (accAfter (grid0.coords t) (slab (xtfAfter (grid0.coords t) (iblk m c 0 t) X) (col (grid0.coords t))) (iblk m c 1 t) Y) := by
  refine ⟨fun j hj => slab_after m c t X h.1 j hj, fun _ => ?_⟩
  have hc := col_coords t
  refine acc_after m c t _ ?_ Y h.2
  rw [slab_after m c t X h.1 _ (by omega), hc]

/-- What a point of the last column stores. -/
theorem out_eq (c : Dev nD) (t : Fin cfg0.N) (X : S8x192x1024.Idx → Elt F .f32) (Y : S192x1024.Idx → Elt F .f32) (h : Good m c t.val X Y) :
    outVal (slab (xtfAfter (grid0.coords t) (iblk m c 0 t) X) (row (grid0.coords t)))
      (accAfter (grid0.coords t) (slab (xtfAfter (grid0.coords t) (iblk m c 0 t) X) (col (grid0.coords t))) (iblk m c 1 t) Y) (iblk m c 2 t) = outAt m c t.val := by
  have hr := row_coords t
  rw [(good_succ m c t X Y h).2 (Nat.succ_ne_zero _), slab_after m c t X h.1 _ (by omega), hr, outAt, pt_val]
  rfl

end Cert.KernelIdeal.Body
-- ==== Proof.Frame.lean ====
module

public import proofs.«01_k».proof.Proof.Invariant
public import Idealize.ShloMosaic.Lib.Claim

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The first scratch operand: the transposed copy of `x`, by chunks. -/
abbrev scX : Memref sig .tc .vmem S8x192x1024 .f32 := Memref.whole cc0_scratch0
/-- The second scratch operand: the accumulator. -/
abbrev scY : Memref sig .tc .vmem S192x1024 .f32 := Memref.whole cc0_scratch1

/-- The launch's own invariant with the scratch operands as memrefs owned at some contents. -/
theorem PhiA_eq (c : Dev nD) :
    (Pipeline.ΦA spec0 c : sProp 𝕄)
      = iprop(iprop((∃ d, owns (c : Thread nD τ) scX fullShare d) ∗ (∃ d, owns (c : Thread nD τ) scY fullShare d)) ∗ (∃ r, prngReg c r)) := by
  unfold Pipeline.ΦA; rw [scopedRest0_eq]; simp only [scX, scY, owns_whole]; try rfl

/-- The invariant before point `n`: the scratch buffers at contents of which `Good` holds. -/
def Phi (c : Dev nD) (n : ℕ) : sProp 𝕄 :=
  iprop(∃ X Y, ⌜Good m c n X Y⌝ ∗ owns (c : Thread nD τ) scX fullShare X ∗ owns (c : Thread nD τ) scY fullShare Y ∗ (∃ r, prngReg c r))

/-- The proof data: the arrays as the region finds them, the inputs' buffers left at their blocks, the result's at what the
    last column's point stores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t.val
  Φ t := Phi m c t.val
  q _ := fullShare
  owed _ := 0

/-- The proof data's arrays are those the region finds. -/
theorem A_eq (c : Dev nD) (w : Fin cfg0.W) : (dats m 0 c).A w = V m c (Pipeline.arrRef spec0 w) := by
  dsimp only [dats]

/-- After a point the series' buffer holds its block. -/
theorem after_0 (c : Dev nD) (t : Fin cfg0.N) : (dats m 0 c).after 0 t = iblk m c 0 t := by dsimp only [dats]
/-- After a point the adjacency's buffer holds its block. -/
theorem after_1 (c : Dev nD) (t : Fin cfg0.N) : (dats m 0 c).after 1 t = iblk m c 1 t := by dsimp only [dats]
/-- After a point the parameters' buffer holds its block. -/
theorem after_2 (c : Dev nD) (t : Fin cfg0.N) : (dats m 0 c).after 2 t = iblk m c 2 t := by dsimp only [dats]
/-- After a point of the last column the result's buffer holds the stored block. -/
theorem after_3 (c : Dev nD) (t : Fin cfg0.N) : (dats m 0 c).after 3 t = outAt m c t.val := by dsimp only [dats]

/-- Before a point the series' buffer holds its block. -/
theorem before_0 (c : Dev nD) (t : Fin cfg0.N) (d) : (dats m 0 c).before 0 t d = iblk m c 0 t :=
  before0_0_of m (dats m 0 c) (A_eq m c 0) (after_0 m c) t d
/-- Before a point the adjacency's buffer holds its block. -/
theorem before_1 (c : Dev nD) (t : Fin cfg0.N) (d) : (dats m 0 c).before 1 t d = iblk m c 1 t :=
  before0_1_of m (dats m 0 c) (A_eq m c 1) (after_1 m c) t d
/-- Before a point the parameters' buffer holds its block. -/
theorem before_2 (c : Dev nD) (t : Fin cfg0.N) (d) : (dats m 0 c).before 2 t d = iblk m c 2 t :=
  before0_2_of m (dats m 0 c) (A_eq m c 2) (after_2 m c) t d

/-! ## The body at a point -/

/-- Each window's staging memref at a point. -/
abbrev ms_0 (t : Fin cfg0.N) := win0_0.stage (cfg0.slots t 0)
abbrev ms_1 (t : Fin cfg0.N) := win0_1.stage (cfg0.slots t 1)
abbrev ms_2 (t : Fin cfg0.N) := win0_2.stage (cfg0.slots t 2)
abbrev ms_3 (t : Fin cfg0.N) := win0_3.stage (cfg0.slots t 3)

/-- The inputs are never idle: their buffers are handed back at their blocks. -/
theorem leaves_0 (c : Dev nD) (t : Fin cfg0.N) : (dats m 0 c).leavesExact 0 t = owns (c : Thread nD τ) (ms_0 t) fullShare (iblk m c 0 t) := by
  unfold Dat.leavesExact; rw [show cfg0.idle 0 (grid0.coords t) = false from rfl, after_0]
/-- The same of the adjacency. -/
theorem leaves_1 (c : Dev nD) (t : Fin cfg0.N) : (dats m 0 c).leavesExact 1 t = owns (c : Thread nD τ) (ms_1 t) fullShare (iblk m c 1 t) := by
  unfold Dat.leavesExact; rw [show cfg0.idle 1 (grid0.coords t) = false from rfl, after_1]
/-- The same of the parameters. -/
theorem leaves_2 (c : Dev nD) (t : Fin cfg0.N) : (dats m 0 c).leavesExact 2 t = owns (c : Thread nD τ) (ms_2 t) fullShare (iblk m c 2 t) := by
  unfold Dat.leavesExact; rw [show cfg0.idle 2 (grid0.coords t) = false from rfl, after_2]
/-- At the last column the result's buffer is handed back at the stored block, -/
theorem leaves_3_end (c : Dev nD) (t : Fin cfg0.N) (h : k0_cond4 (grid0.coords t) = 1#1) :
    (dats m 0 c).leavesExact 3 t = owns (c : Thread nD τ) (ms_3 t) fullShare (outAt m c t.val) := by
  unfold Dat.leavesExact; rw [show cfg0.idle 3 (grid0.coords t) = false from (by show (!(k0_cond4 (grid0.coords t) == 1#1)) = false; rw [h]; rfl), after_3]
/-- and elsewhere as it was found. -/
theorem leaves_3_idle (c : Dev nD) (t : Fin cfg0.N) (h : ¬ k0_cond4 (grid0.coords t) = 1#1) :
    (dats m 0 c).leavesExact 3 t = iprop(∃ d, owns (c : Thread nD τ) (ms_3 t) fullShare ((dats m 0 c).before 3 t d)) := by
  have hf : (cfg0.win 3).flush t = false := by
    rw [← Bool.not_eq_true, flush0_3, ← col_coords, ← ends_iff]; exact h
  unfold Dat.leavesExact
  rw [show cfg0.idle 3 (grid0.coords t) = true from (by show (!(k0_cond4 (grid0.coords t) == 1#1)) = true; rw [beq_eq_false_iff_ne.mpr h]; rfl), hf]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t)

/-- The body at a point, from what it is called with to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl,
    show (dats m 0 c).Φ t.succ = Phi m c (t.val + 1) from rfl, show (dats m 0 c).Φ t.castSucc = Phi m c t.val from rfl,
    leaves_0, leaves_1, leaves_2]
  unfold Phi
  iintro ⟨⟨%X, %Y, %hg, HX, HY, Hr⟩, Ho, ⟨%d0, H0⟩, ⟨%d1, H1⟩, ⟨%d2, H2⟩, ⟨%d3, H3⟩⟩
  iapply (run c (grid0.coords t) _ _ _ _ _ _ _ _ _ _ _ _ (iblk m c 0 t) (iblk m c 1 t) (iblk m c 2 t) ((dats m 0 c).before 3 t d3) X Y (starts_or_adds _) Set.univ _)
  isplitl [H0]; · iexact H0
  isplitl [H1]; · iexact H1
  isplitl [H2]; · iexact H2
  isplitl [H3]; · iexact H3
  isplitl [HX]; · iexact HX
  isplitl [HY]; · iexact HY
  iintro ⟨H0, H1, H2, H3, HX, HY⟩
  isplitl [HX HY Hr]
  · iexists _; iexists _
    isplitr; swap
    · isplitl [HX]; · iexact HX
      isplitl [HY]; · iexact HY
      iexact Hr
    ipureintro
    exact good_succ m c t X Y hg
  isplitl [Ho]; · iexact Ho
  isplitl [H0]; · iexact H0
  isplitl [H1]; · iexact H1
  isplitl [H2]; · iexact H2
  by_cases h : k0_cond4 (grid0.coords t) = 1#1
  · rw [leaves_3_end m c t h, if_pos h, out_eq m c t X Y hg]
    iexact H3
  · rw [leaves_3_idle m c t h, if_neg h]
    iexists d3
    iexact H3

/-- The pipeline's body at a point is the printed body on that point's buffers. -/
theorem defs₀_row (t : Fin cfg0.N) :
    defs₀ (F := F) .tc cfg0.body (cfg0.bodyArgs t (cfg0.slots t)) = bodyAt0 t := by
  unfold defs₀; rw [Defs.onTc_tc]

/-- The body meets the pipeline's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The launch's own invariant gives the one before the first point. -/
theorem hin (c : Dev nD) : Pipeline.ΦA spec0 c ⊢ (dats m 0 c).Φ 0 := by
  rw [show (dats m 0 c).Φ 0 = Phi m c 0 from rfl, PhiA_eq, Phi]
  iintro ⟨⟨⟨%X, HX⟩, ⟨%Y, HY⟩⟩, Hr⟩
  iexists X; iexists Y
  isplitr
  · ipureintro; exact good_zero m c X Y
  isplitl [HX]; · iexact HX
  isplitl [HY]; · iexact HY
  iexact Hr

/-- The invariant after the last point gives the launch's own back. -/
theorem hout (c : Dev nD) : (dats m 0 c).Φ (Fin.last cfg0.N) ⊢ Pipeline.ΦA spec0 c := by
  rw [show (dats m 0 c).Φ (Fin.last cfg0.N) = Phi m c (Fin.last cfg0.N).val from rfl, PhiA_eq, Phi]
  iintro ⟨%X, %Y, %hg, HX, HY, Hr⟩
  isplitl [HX HY]
  · isplitl [HX]
    · iexists X; iexact HX
    iexists Y; iexact HY
  iexact Hr

/-! ## The run and the frame -/

set_option backward.isDefEq.respectTransparency.types false in
set_option maxHeartbeats 800000 in
/-- Every execution terminates with the pipeline's arrays at what the proof data says, the other buffers at what the lines after
    the region leave, and every counter at zero. -/
theorem run_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- Every execution terminates, the four arguments end unchanged, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.KernelIdeal.Body
-- ==== Proof.Transfer.lean ====
module

public import proofs.«01_k».proof.Proof.Gen.Kernel.Frame
public import proofs.«01_k».proof.Proof.Frame

@[expose] public section

noncomputable section

namespace Cert.Kernel.Body

open Idealize.ShloMosaic Idealize.SL.Sem Cert.Kernel Cert.Kernel.Gen

variable {F : FTy → Type} [FloatOps F]

/-- The kernel's body table is its idealized text's: no operation was replaced. -/
theorem defs₀_eq : Cert.Kernel.defs₀ (F := F) = Cert.KernelIdeal.defs₀ (F := F) := by
  unfold Cert.Kernel.defs₀ Cert.KernelIdeal.defs₀
  refine congrArg Defs.onTc (funext fun ℓ => funext fun a => ?_)
  match ℓ, a with
  | ⟨0, _⟩, (t, s) => rfl

/-- So are the bodies with the pipeline's own. -/
theorem defs_eq : Cert.Kernel.defs (F := F) = Cert.KernelIdeal.defs (F := F) :=
  congrArg (Pipeline.defs Cert.Kernel.pcfgs) defs₀_eq

/-- And so is the program around the kernel. -/
theorem main_eq : Cert.Kernel.main (F := F) = Cert.KernelIdeal.main (F := F) := rfl

/-- The kernel itself runs with its four arguments unchanged and every counter ending at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  rw [defs_eq, main_eq]
  exact Cert.KernelIdeal.Body.frame m ρ

end Cert.Kernel.Body
-- ==== Proof.Pay.lean ====
module

public import proofs.«01_k».proof.Proof.Body
public import Idealize.ShloMosaic.Lib.Pointwise
public import Idealize.ShloMosaic.Lib.Pipeline.Value

@[expose] public section

set_option maxRecDepth 16384

noncomputable section

namespace Cert.KernelIdeal.Body

open Cert.KernelIdeal Cert.KernelIdeal.Gen
open Idealize.ShloMosaic

section Layout
variable {F : FTy → Type} [FloatOps F]

/-- The (batch, channel) row of the block of `x` that piece `n` of a chunk is made of: the pieces run over the batch entries of
    channel 0, then of channel 1. -/
def mem (n : Fin 16) : Fin 16 := ⟨2 * (n.val % 8) + n.val / 8, by have := n.isLt; omega⟩

/-- Each member's slice lies inside the block. -/
theorem slices_x (n : Fin 16) : S16x1024x12.Slices ![(mem n).val, 0, 0] S1x1024x12 := by revert n; decide +kernel

/-- Piece `n` of a chunk: one row of the block of `x`, transposed. -/
def piece (x : S16x1024x12.Idx → Elt F .f32) (n : Fin 16) : S12x1024.Idx → Elt F .f32 :=
  transpose S12x1024 [1, 0] (shapeCast S1024x12 (extractStridedSlice S1x1024x12 ![(mem n).val, 0, 0] x (slices_x n)) shapeCasts_S1x1024x12_S1024x12) transposes_S1024x12_p1_0_S12x1024

/-- A member's transposed slice, read. -/
theorem piece_apply (x : S16x1024x12.Idx → Elt F .f32) (n : Fin 16) (l : Fin 12) (k : Fin 1024) :
    piece x n (ix2 l k) = x (ix3 (mem n) k l) := by
  unfold piece
  rw [transpose_apply _ _ _ (ix2 l k) (ix2 k l) (by intro b; match b with | 0 => rfl | 1 => rfl),
    shapeCast_dropUnit_apply]
  refine extractStridedSlice_apply _ _ _ _ _ fun a => ?_
  match a with
  | 0 => rfl
  | 1 => exact (Nat.zero_add _).symm
  | 2 => exact (Nat.zero_add _).symm

/-- Sixteen pieces of 12 rows fill the 192 rows. -/
theorem cat_x {α : Type} (f : Fin 16 → (S12x1024.Idx → α)) :
    Shape.Concatenates ((List.ofFn fun n : Fin 16 => (⟨S12x1024, f n⟩ : (s : Shape) × (s.Idx → α))).map (·.1)) S192x1024 0 :=
  concatenates_S12x1024_S12x1024_S12x1024_S12x1024_S12x1024_S12x1024_S12x1024_S12x1024_S12x1024_S12x1024_S12x1024_S12x1024_S12x1024_S12x1024_S12x1024_S12x1024_S192x1024_d0

/-- The transposed chunk is the sixteen pieces put together. -/
theorem k0_pay5_eq (x : S16x1024x12.Idx → Elt F .f32) :
    k0_pay5 x = shapeCast S1x192x1024 (concatenate S192x1024 0 (List.ofFn fun n : Fin 16 => ⟨S12x1024, piece x n⟩) (cat_x _)) shapeCasts_S192x1024_S1x192x1024 := by
  unfold k0_pay5
  rw [shapeCast_self]
  rfl

/-- A chunk at row `r`, lane `k`: the entry of the block of `x` that the row stands for. -/
theorem k0_pay5_apply (x : S16x1024x12.Idx → Elt F .f32) (z : Fin 1) (r : Fin 192) (k : Fin 1024) :
    k0_pay5 x (ix3 z r k) = x (ix3 (mem ⟨r.val / 12, by have := r.isLt; omega⟩) k ⟨r.val % 12, Nat.mod_lt _ (by omega)⟩) := by
  rw [k0_pay5_eq]
  refine (shapeCast_addUnit_apply (![192, 1024] : Fin 2 → ℕ) _ _ _).trans (Eq.trans ?_ (piece_apply x _ _ _))
  exact concatenate_ofFn_apply (s₁ := S12x1024) (t := S192x1024) 0 (piece x) _ rfl 12 rfl _ ⟨r.val / 12, _⟩ rfl _ rfl (by
    intro b hb
    match b with
    | 0 => exact absurd rfl hb
    | 1 => rfl)

/-- The first row, in a chunk's order, of row `p` of the block of the result. -/
def orow (p : Fin 16) : ℕ := 96 * (p.val % 2) + 12 * (p.val / 2)

/-- Each member's rows lie inside the 192. -/
theorem slices_o (p : Fin 16) : S192x1024.Slices ![orow p, 0] S12x1024 := by revert p; decide +kernel

/-- Row `p` of the block of the result: twelve rows in a chunk's order, transposed. -/
def opiece (Z : S192x1024.Idx → Elt F .f32) (p : Fin 16) : S1x1024x12.Idx → Elt F .f32 :=
  shapeCast S1x1024x12 (transpose S1024x12 [1, 0] (extractStridedSlice S12x1024 ![orow p, 0] Z (slices_o p)) transposes_S12x1024_p1_0_S1024x12) shapeCasts_S1024x12_S1x1024x12

/-- A member's row at a time is one of the 192. -/
theorem orow_lt (p : Fin 16) (l : Fin 12) : orow p + l.val < 192 := by have := p.isLt; have := l.isLt; unfold orow; omega

/-- A member's rows transposed back, read. -/
theorem opiece_apply (Z : S192x1024.Idx → Elt F .f32) (p : Fin 16) (z : Fin 1) (k : Fin 1024) (l : Fin 12) :
    opiece Z p (ix3 z k l) = Z (ix2 ⟨orow p + l.val, orow_lt p l⟩ k) := by
  unfold opiece
  refine (shapeCast_addUnit_apply (![1024, 12] : Fin 2 → ℕ) _ _ _).trans ?_
  refine (transpose_apply _ _ _ _ (ix2 l k) (by intro b; match b with | 0 => rfl | 1 => rfl)).trans ?_
  refine extractStridedSlice_apply _ _ _ _ _ fun a => ?_
  match a with
  | 0 => rfl
  | 1 => exact (Nat.zero_add _).symm

/-- The values of the last column's point in a chunk's order: the mix where an entry is missing, the entry elsewhere. -/
def mix (S : S1x192x1024.Idx → Elt F .f32) (Y : S192x1024.Idx → Elt F .f32) (x2 : S2x5.Idx → Elt F .f32) : S192x1024.Idx → Elt F .f32 :=
  mixVal S Y x2 fun a b c d e f g h k => k0_pay15 a b c d e f g h k

/-- Sixteen pieces fill the block of the result. -/
theorem cat_o {α : Type} (f : Fin 16 → (S1x1024x12.Idx → α)) :
    Shape.Concatenates ((List.ofFn fun n : Fin 16 => (⟨S1x1024x12, f n⟩ : (s : Shape) × (s.Idx → α))).map (·.1)) S16x1024x12 0 :=
  concatenates_S1x1024x12_S1x1024x12_S1x1024x12_S1x1024x12_S1x1024x12_S1x1024x12_S1x1024x12_S1x1024x12_S1x1024x12_S1x1024x12_S1x1024x12_S1x1024x12_S1x1024x12_S1x1024x12_S1x1024x12_S1x1024x12_S16x1024x12_d0

/-- The stored block is the sixteen pieces put together. -/
theorem outVal_eq (S : S1x192x1024.Idx → Elt F .f32) (Y : S192x1024.Idx → Elt F .f32) (x2 : S2x5.Idx → Elt F .f32) :
    outVal S Y x2 = concatenate S16x1024x12 0 (List.ofFn fun p : Fin 16 => ⟨S1x1024x12, opiece (mix S Y x2) p⟩) (cat_o _) := by
  unfold outVal mix mixVal
  rfl

/-- The block of the result at an entry. -/
theorem outVal_apply (S : S1x192x1024.Idx → Elt F .f32) (Y : S192x1024.Idx → Elt F .f32) (x2 : S2x5.Idx → Elt F .f32) (p : Fin 16) (k : Fin 1024) (l : Fin 12) :
    outVal S Y x2 (ix3 p k l) = mix S Y x2 (ix2 ⟨orow p + l.val, orow_lt p l⟩ k) := by
  rw [outVal_eq]
  refine Eq.trans ?_ (opiece_apply (mix S Y x2) p 0 k l)
  exact concatenate_ofFn_unit_apply (s₁ := S1x1024x12) (t := S16x1024x12) 0 (opiece (mix S Y x2)) _ rfl rfl _ p rfl _ (by
    intro b hb
    match b with
    | 0 => exact absurd rfl hb
    | 1 => rfl
    | 2 => rfl)

end Layout

end Cert.KernelIdeal.Body
-- ==== Proof.Mix.lean ====
module

public import proofs.«01_k».proof.Proof.Pay
public import Idealize.ShloMosaic.Lib.MatmulPlain

@[expose] public section

set_option maxRecDepth 16384

noncomputable section

namespace Cert.KernelIdeal.Body

open Cert.KernelIdeal Cert.KernelIdeal.Gen
open Idealize.ShloMosaic
open scoped BigOperators

/-! ## The kernel's values over the extended reals -/

/-- Whether an entry is missing: equal to minus infinity. -/
def missing (v : EReal) : BitVec 1 := FloatOps.cmpf (F := Ideal) (φ := .f32) .oeq v (Ideal.ofBits .f32 0xFF800000#32)

/-- An entry with a missing one replaced by zero. -/
def imp (v : EReal) : EReal := Scalar.select (missing v) 0 v

/-- The imputed chunk at an index. -/
theorem pay8_apply (S : S1x192x1024.Idx → EReal) (r : Fin 192) (k : Fin 1024) : k0_pay8 (F := Ideal) S (ix2 r k) = imp (S (ix3 0 r k)) := by
  have e : shapeCast S192x1024 S shapeCasts_S1x192x1024_S192x1024 (ix2 r k) = S (ix3 0 r k) := by
    refine (shapeCast_dropUnit_apply (![192, 1024] : Fin 2 → ℕ) S _ _).trans (congrArg S ?_)
    funext a; match a with | 0 => rfl | 1 => rfl | 2 => rfl
  show Scalar.select (FloatOps.cmpf (F := Ideal) (φ := .f32) .oeq (shapeCast S192x1024 S shapeCasts_S1x192x1024_S192x1024 (ix2 r k)) (Ideal.ofBits .f32 0xFF800000#32))
    (Ideal.ofBits .f32 0x00000000#32) (shapeCast S192x1024 S shapeCasts_S1x192x1024_S192x1024 (ix2 r k)) = _
  rw [e, Ideal.ofBits_zero_f32]
  rfl

/-- The mask of missing entries at an index. -/
theorem pay7_apply (S : S1x192x1024.Idx → EReal) (r : Fin 192) (k : Fin 1024) : k0_pay7 (F := Ideal) S (ix2 r k) = missing (S (ix3 0 r k)) := by
  have e : shapeCast S192x1024 S shapeCasts_S1x192x1024_S192x1024 (ix2 r k) = S (ix3 0 r k) := by
    refine (shapeCast_dropUnit_apply (![192, 1024] : Fin 2 → ℕ) S _ _).trans (congrArg S ?_)
    funext a; match a with | 0 => rfl | 1 => rfl | 2 => rfl
  show FloatOps.cmpf (F := Ideal) (φ := .f32) .oeq (shapeCast S192x1024 S shapeCasts_S1x192x1024_S192x1024 (ix2 r k)) (Ideal.ofBits .f32 0xFF800000#32) = _
  rw [e]
  rfl

/-- One chunk's contribution to the product: the chunk, imputed, times the block of the adjacency. -/
def contrib (S : S1x192x1024.Idx → EReal) (A : S1024x1024.Idx → EReal) (r : Fin 192) (k : Fin 1024) : EReal :=
  ∑ n : Fin 1024, imp (S (ix3 0 r n)) * A (ix2 n k)

/-- The product of an imputed chunk with a block of the adjacency, at an index: one sum. -/
theorem pay1_apply (S : S1x192x1024.Idx → EReal) (A : S1024x1024.Idx → EReal) (r : Fin 192) (k : Fin 1024) :
    k0_pay1 (F := Ideal) S A (ix2 r k) = contrib S A r k := by
  show FloatOps.matmul (F := Ideal) (DotDims.plain 192 1024 1024) none (truncf .bf16 (k0_pay8 (F := Ideal) S) bitsLt_bf16_f32)
    (truncf .bf16 (shapeCast S1024x1024 A shapeCasts_S1024x1024_S1024x1024) bitsLt_bf16_f32) (constant S192x1024 .f32 0x00000000#32) (ix2 r k) = _
  refine (Ideal.matmul_plain_apply none _ _ _ r k).trans ?_
  rw [shapeCast_self]
  refine (congrArg₂ (· + ·) (show constant (F := Ideal) S192x1024 .f32 0x00000000#32 (ix2 r k) = 0 from Ideal.ofBits_zero_f32) (Finset.sum_congr rfl fun n _ => ?_)).trans (zero_add _)
  exact congrArg (· * A (ix2 n k)) (pay8_apply S r n)

/-- What the first column stores in the accumulator, at an index. -/
theorem pay2_apply (S : S1x192x1024.Idx → EReal) (A : S1024x1024.Idx → EReal) (r : Fin 192) (k : Fin 1024) :
    k0_pay2 (F := Ideal) S A (ix2 r k) = contrib S A r k := by
  unfold k0_pay2
  rw [shapeCast_self]
  exact pay1_apply S A r k

/-- What another column stores in the accumulator, at an index. -/
theorem pay3_apply (S : S1x192x1024.Idx → EReal) (A : S1024x1024.Idx → EReal) (Y : S192x1024.Idx → EReal) (r : Fin 192) (k : Fin 1024) :
    k0_pay3 (F := Ideal) S A Y (ix2 r k) = Y (ix2 r k) + contrib S A r k := by
  unfold k0_pay3
  rw [shapeCast_self]
  exact congrArg (Y (ix2 r k) + ·) (pay1_apply S A r k)

/-- The rows of the two channels at place `q`. -/
def lo (q : Fin 96) : Fin 192 := ⟨q.val, by have := q.isLt; omega⟩
def hi (q : Fin 96) : Fin 192 := ⟨96 + q.val, by have := q.isLt; omega⟩

/-- Channel `c`'s mix of the two imputed channels and the two products, by the parameter table. -/
def gcn (S : S1x192x1024.Idx → EReal) (Y : S192x1024.Idx → EReal) (P : S2x5.Idx → EReal) (c : Fin 2) (q : Fin 96) (k : Fin 1024) : EReal :=
  P (ix2 c 0) * imp (S (ix3 0 (lo q) k)) + P (ix2 c 1) * imp (S (ix3 0 (hi q) k)) + P (ix2 c 2) * Y (ix2 (lo q) k) + P (ix2 c 3) * Y (ix2 (hi q) k) + P (ix2 c 4)

/-- A word loaded from the parameter table is the table's entry. -/
theorem word_apply (P : S2x5.Idx → EReal) (i : Fin 2) (j : Fin 5) (inb : ∀ a, (![i.val, j.val] : Fin 2 → ℕ) a + S1x1.size a ≤ S2x5.size a) :
    word (F := Ideal) P ![i.val, j.val] inb = P (ix2 i j) := by
  refine congrArg P (funext fun a => Fin.ext ?_)
  match a with
  | 0 => exact Nat.add_zero _
  | 1 => exact Nat.add_zero _

/-- The first half of the rows, read. -/
theorem slice_lo (X : S192x1024.Idx → EReal) (h) (q : Fin 96) (k : Fin 1024) : extractStridedSlice S96x1024 ![0, 0] X h (ix2 q k) = X (ix2 (lo q) k) :=
  extractStridedSlice_apply _ _ _ _ _ fun a => by match a with | 0 => exact (Nat.zero_add _).symm | 1 => exact (Nat.zero_add _).symm
/-- The second half of the rows, read. -/
theorem slice_hi (X : S192x1024.Idx → EReal) (h) (q : Fin 96) (k : Fin 1024) : extractStridedSlice S96x1024 ![96, 0] X h (ix2 q k) = X (ix2 (hi q) k) :=
  extractStridedSlice_apply _ _ _ _ _ fun a => by match a with | 0 => rfl | 1 => exact (Nat.zero_add _).symm

/-- Two halves put together, read in the first half. -/
theorem cat_lo (a b : S96x1024.Idx → EReal) (h) (q : Fin 96) (k : Fin 1024) : concatenate S192x1024 0 [⟨S96x1024, a⟩, ⟨S96x1024, b⟩] h (ix2 (lo q) k) = a (ix2 q k) :=
  concatenate_pair_apply_left (t := S192x1024) (s₁ := S96x1024) (s₂ := S96x1024) 0 a b h (ix2 (lo q) k) rfl (ix2 q k) fun i => by match i with | 0 => rfl | 1 => rfl
/-- Two halves put together, read in the second half. -/
theorem cat_hi (a b : S96x1024.Idx → EReal) (h) (q : Fin 96) (k : Fin 1024) : concatenate S192x1024 0 [⟨S96x1024, a⟩, ⟨S96x1024, b⟩] h (ix2 (hi q) k) = b (ix2 q k) :=
  concatenate_pair_apply_right (t := S192x1024) (s₁ := S96x1024) (s₂ := S96x1024) 0 a b h (ix2 (hi q) k) rfl rfl (ix2 q k) (fun i => by match i with | 0 => exact fun h => absurd rfl h | 1 => exact fun _ => rfl) (Nat.add_comm _ _)

/-- The row of channel `c` at place `q`. -/
def at_ (c : Fin 2) (q : Fin 96) : Fin 192 := ⟨96 * c.val + q.val, by have := q.isLt; have := c.isLt; omega⟩

/-- The first channel's mix, as the kernel computes it. -/
theorem pay13_apply (S : S1x192x1024.Idx → EReal) (Y : S192x1024.Idx → EReal) (a b c d e : EReal) (q : Fin 96) (k : Fin 1024) :
    k0_pay13 (F := Ideal) S Y a b c d e (ix2 q k)
      = a * imp (S (ix3 0 (lo q) k)) + b * imp (S (ix3 0 (hi q) k)) + c * Y (ix2 (lo q) k) + d * Y (ix2 (hi q) k) + e := by
  rw [← pay8_apply, ← pay8_apply, ← slice_lo Y slices_S192x1024_o0_0_S96x1024, ← slice_hi Y slices_S192x1024_o96_0_S96x1024,
    ← slice_lo (k0_pay8 (F := Ideal) S) slices_S192x1024_o0_0_S96x1024, ← slice_hi (k0_pay8 (F := Ideal) S) slices_S192x1024_o96_0_S96x1024]
  rfl

/-- The second channel's mix, as the kernel computes it. -/
def mix1 (S : S1x192x1024.Idx → EReal) (Y : S192x1024.Idx → EReal) (a b c d e : EReal) : FVec Ideal S96x1024 .f32 :=
  addf (addf (addf (k0_pay14 (F := Ideal) S a b) (mulf (broadcast S96x1024 c) (k0_pay11 (F := Ideal) Y))) (mulf (broadcast S96x1024 d) (k0_pay12 (F := Ideal) Y))) (broadcast S96x1024 e)

/-- The second channel's mix at an index. -/
theorem mix1_apply (S : S1x192x1024.Idx → EReal) (Y : S192x1024.Idx → EReal) (a b c d e : EReal) (q : Fin 96) (k : Fin 1024) :
    mix1 S Y a b c d e (ix2 q k)
      = a * imp (S (ix3 0 (lo q) k)) + b * imp (S (ix3 0 (hi q) k)) + c * Y (ix2 (lo q) k) + d * Y (ix2 (hi q) k) + e := by
  rw [← pay8_apply, ← pay8_apply, ← slice_lo Y slices_S192x1024_o0_0_S96x1024, ← slice_hi Y slices_S192x1024_o96_0_S96x1024,
    ← slice_lo (k0_pay8 (F := Ideal) S) slices_S192x1024_o0_0_S96x1024, ← slice_hi (k0_pay8 (F := Ideal) S) slices_S192x1024_o96_0_S96x1024]
  rfl

/-- What is stored, with the two channels' mixes named. -/
theorem mix_eq (S : S1x192x1024.Idx → EReal) (Y : S192x1024.Idx → EReal) (P : S2x5.Idx → EReal) :
    mix (F := Ideal) S Y P = select (k0_pay7 (F := Ideal) S)
      (concatenate S192x1024 0 [⟨S96x1024, k0_pay13 (F := Ideal) S Y (P (ix2 0 0)) (P (ix2 0 1)) (P (ix2 0 2)) (P (ix2 0 3)) (P (ix2 0 4))⟩,
        ⟨S96x1024, mix1 S Y (P (ix2 1 0)) (P (ix2 1 1)) (P (ix2 1 2)) (P (ix2 1 3)) (P (ix2 1 4))⟩] concatenates_S96x1024_S96x1024_S192x1024_d0)
      (k0_pay8 (F := Ideal) S) := by
  rw [← word_apply P 0 0 inb_S2x5_S1x1_0_0, ← word_apply P 0 1 inb_S2x5_S1x1_0_1, ← word_apply P 0 2 inb_S2x5_S1x1_0_2, ← word_apply P 0 3 inb_S2x5_S1x1_0_3, ← word_apply P 0 4 inb_S2x5_S1x1_0_4,
    ← word_apply P 1 0 inb_S2x5_S1x1_1_0, ← word_apply P 1 1 inb_S2x5_S1x1_1_1, ← word_apply P 1 2 inb_S2x5_S1x1_1_2, ← word_apply P 1 3 inb_S2x5_S1x1_1_3, ← word_apply P 1 4 inb_S2x5_S1x1_1_4]
  rfl

/-- What the last column's point stores, in a chunk's order: the mix where the entry is missing, the entry elsewhere. -/
theorem mix_apply (S : S1x192x1024.Idx → EReal) (Y : S192x1024.Idx → EReal) (P : S2x5.Idx → EReal) (c : Fin 2) (q : Fin 96) (k : Fin 1024) :
    mix (F := Ideal) S Y P (ix2 (at_ c q) k) = Scalar.select (missing (S (ix3 0 (at_ c q) k))) (gcn S Y P c q k) (imp (S (ix3 0 (at_ c q) k))) := by
  rw [mix_eq, ← pay7_apply, ← pay8_apply]
  refine congrArg (fun u => Scalar.select _ u _) ?_
  match c with
  | 0 =>
    rw [show at_ 0 q = lo q from Fin.ext (Nat.zero_add _)]
    exact (cat_lo _ _ _ q k).trans (pay13_apply ..)
  | 1 => exact (cat_hi _ _ _ q k).trans (mix1_apply ..)

end Cert.KernelIdeal.Body
-- ==== Proof.Blocks.lean ====
module

public import proofs.«01_k».proof.Proof.Frame
public import proofs.«01_k».proof.Proof.Mix
public import Idealize.ShloMosaic.Lib.Pipeline.Value

@[expose] public section

set_option maxRecDepth 16384

noncomputable section

namespace Cert.KernelIdeal.Body

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-! ## The arrays as the region finds them -/

/-- The four arguments. -/
abbrev argX (c : Dev nD) : S8x2x8192x12.Idx → Elt F .f32 := m ((c : Thread nD τ).loc main_arg0)
abbrev argA (c : Dev nD) : S1x8192x8192.Idx → Elt F .f32 := m ((c : Thread nD τ).loc main_arg1)
abbrev argW (c : Dev nD) : S2x4.Idx → Elt F .f32 := m ((c : Thread nD τ).loc main_arg2)
abbrev argB (c : Dev nD) : S2.Idx → Elt F .f32 := m ((c : Thread nD τ).loc main_arg3)

/-- The adjacency as the region finds it: the argument without its leading axis. -/
theorem V_a (c : Dev nD) : V m c main_v0 = shapeCast S8192x8192 (argA m c) shapeCasts_S1x8192x8192_S8192x8192 := by
  entry_read; rfl
/-- The series as the region finds them: the argument with batch and channels in one axis. -/
theorem V_x (c : Dev nD) : V m c main_v1 = shapeCast S16x8192x12 (argX m c) shapeCasts_S8x2x8192x12_S16x8192x12 := by
  entry_read; rfl
/-- The parameter table as the region finds it: the weights, then the bias as a fifth column. -/
theorem V_p (c : Dev nD) : V m c main_v3
    = concatenate S2x5 1 [⟨S2x4, argW m c⟩, ⟨S2x1, broadcastInDim S2x1 ![0] bcast_S2_S2x1_0 (argB m c)⟩] concatenates_S2x4_S2x1_S2x5_d1 := by
  entry_read; rfl

/-- Member `b` of the batch, channel `c`, in the flattened array. -/
def flat (b : Fin 8) (c : Fin 2) : Fin 16 := ⟨2 * b.val + c.val, by have := b.isLt; have := c.isLt; omega⟩

/-- An entry of that adjacency is the argument's. -/
theorem V_a_apply (c : Dev nD) (v k : Fin 8192) : V m c main_v0 (ix2 v k) = argA m c (ix3 0 v k) := by
  rw [V_a]
  refine (shapeCast_dropUnit_apply (![8192, 8192] : Fin 2 → ℕ) _ _ _).trans (congrArg (argA m c) ?_)
  funext a; match a with | 0 => rfl | 1 => rfl | 2 => rfl
/-- An entry of the flattened series is the argument's. -/
theorem V_x_apply (c : Dev nD) (b : Fin 8) (d : Fin 2) (v : Fin 8192) (l : Fin 12) : V m c main_v1 (ix3 (flat b d) v l) = argX m c (ix4 b d v l) := by
  rw [V_x]
  refine shapeCast_apply _ _ _ _ ?_
  rw [Shape.rowMajor_val_four, Shape.rowMajor_val_three]
  show ((b.val * 2 + d.val) * 8192 + v.val) * 12 + l.val = ((2 * b.val + d.val) * 8192 + v.val) * 12 + l.val
  rw [Nat.mul_comm b.val 2]
/-- The first four columns of the parameter table are the weights. -/
theorem V_p_weight (c : Dev nD) (o : Fin 2) (q : Fin 4) : V m c main_v3 (ix2 o q.castSucc) = argW m c (ix2 o q) := by
  rw [V_p]
  exact concatenate_pair_apply_left (t := S2x5) (s₁ := S2x4) (s₂ := S2x1) 1 _ _ _ (ix2 o q.castSucc) rfl (ix2 o q) fun i => by match i with | 0 => rfl | 1 => rfl
/-- Its last column is the bias. -/
theorem V_p_bias (c : Dev nD) (o : Fin 2) : V m c main_v3 (ix2 o 4) = argB m c (ix1 o) := by
  rw [V_p]
  refine (concatenate_pair_apply_right (t := S2x5) (s₁ := S2x4) (s₂ := S2x1) 1 _ _ _ (ix2 o 4) rfl rfl (ix2 o 0)
    (fun i => by match i with | 0 => exact fun _ => rfl | 1 => exact fun h => absurd rfl h) rfl).trans ?_
  refine congrArg (argB m c) (funext fun a => ?_)
  match a with | 0 => rfl

/-! ## The blocks the region reads -/

/-- The index of node `n` of tile `v`. -/
def node (v : Fin 8) (n : Fin 1024) : Fin 8192 := ⟨v.val * 1024 + n.val, by have := v.isLt; have := n.isLt; omega⟩

/-- Where each window's block starts at point `8 w + v`: the first window's at the first row only. -/
theorem idx0 : ∀ t : Fin cfg0.N, t.val < 8 → win0_0.index t 0 = 0 ∧ win0_0.index t 1 = t.val ∧ win0_0.index t 2 = 0 := by decide +kernel
/-- The adjacency's block is that of the summed tile and the output tile. -/
theorem idx1 : ∀ t : Fin cfg0.N, win0_1.index t 0 = t.val % 8 ∧ win0_1.index t 1 = t.val / 8 := by decide +kernel
/-- The parameter table is always read whole. -/
theorem idx2 : ∀ t : Fin cfg0.N, win0_2.index t 0 = 0 ∧ win0_2.index t 1 = 0 := by decide +kernel
/-- The result's block is that of the output tile. -/
theorem idx3 : ∀ t : Fin cfg0.N, win0_3.index t 0 = 0 ∧ win0_3.index t 1 = t.val / 8 ∧ win0_3.index t 2 = 0 := by decide +kernel

/-- The grid point of number `n` has that number. -/
theorem pt_of (n : ℕ) (h : n < 64) : (pt n).val = n := Nat.mod_eq_of_lt h

/-- An entry of the series' block at the first row's point `v` is the array's at tile `v`. -/
theorem blk_x (c : Dev nD) (v : Fin 8) (p : Fin 16) (n : Fin 1024) (l : Fin 12) :
    iblk m c 0 (pt v.val) (ix3 p n l) = V m c main_v1 (ix3 p (node v n) l) := by
  have hv := v.isLt
  have e := pt_of v.val (by omega)
  have hi := idx0 (pt v.val) (by omega)
  rw [e] at hi
  unfold iblk
  rw [View.read_apply]
  refine congrArg (V m c main_v1) (funext fun a => Fin.ext ?_)
  match a with
  | ⟨0, _⟩ => show win0_0.index (pt v.val) 0 * 16 + 1 * p.val = p.val; rw [hi.1]; omega
  | ⟨1, _⟩ => show win0_0.index (pt v.val) 1 * 1024 + 1 * n.val = v.val * 1024 + n.val; rw [hi.2.1]; omega
  | ⟨2, _⟩ => show win0_0.index (pt v.val) 2 * 12 + 1 * l.val = l.val; rw [hi.2.2]; omega

/-- An entry of the adjacency's block at point `8 w + v` is the array's at tiles `v` and `w`. -/
theorem blk_a (c : Dev nD) (w v : Fin 8) (n k : Fin 1024) :
    iblk m c 1 (pt (8 * w.val + v.val)) (ix2 n k) = V m c main_v0 (ix2 (node v n) (node w k)) := by
  have hv := v.isLt
  have hw := w.isLt
  have e := pt_of (8 * w.val + v.val) (by omega)
  have hi := idx1 (pt (8 * w.val + v.val))
  rw [e] at hi
  unfold iblk
  rw [View.read_apply]
  refine congrArg (V m c main_v0) (funext fun a => Fin.ext ?_)
  match a with
  | ⟨0, _⟩ => show win0_1.index (pt (8 * w.val + v.val)) 0 * 1024 + 1 * n.val = v.val * 1024 + n.val; rw [hi.1]; omega
  | ⟨1, _⟩ => show win0_1.index (pt (8 * w.val + v.val)) 1 * 1024 + 1 * k.val = w.val * 1024 + k.val; rw [hi.2]; omega

/-- An entry of the parameters' block is the table's. -/
theorem blk_p (c : Dev nD) (t : Fin cfg0.N) (o : Fin 2) (q : Fin 5) : iblk m c 2 t (ix2 o q) = V m c main_v3 (ix2 o q) := by
  have hi := idx2 t
  unfold iblk
  rw [View.read_apply]
  refine congrArg (V m c main_v3) (funext fun a => Fin.ext ?_)
  match a with
  | ⟨0, _⟩ => show win0_2.index t 0 * 2 + 1 * o.val = o.val; rw [hi.1]; omega
  | ⟨1, _⟩ => show win0_2.index t 1 * 5 + 1 * q.val = q.val; rw [hi.2]; omega

/-- The place of member `b` at time `l` in a channel's rows. -/
def place (b : Fin 8) (l : Fin 12) : Fin 96 := ⟨12 * b.val + l.val, by have := b.isLt; have := l.isLt; omega⟩

/-- A chunk of the transposed copy, read: channel `d`'s row of member `b` at time `l` holds the argument's node of the chunk's tile. -/
theorem chunk_apply (c : Dev nD) (v : Fin 8) (d : Fin 2) (b : Fin 8) (l : Fin 12) (k : Fin 1024) (z : Fin 1) :
    chunk m c v.val (ix3 z (at_ d (place b l)) k) = argX m c (ix4 b d (node v k) l) := by
  have hb := b.isLt
  have hd := d.isLt
  have hl := l.isLt
  unfold chunk
  rw [k0_pay5_apply, blk_x, ← V_x_apply]
  refine congrArg₂ (fun p q => V m c main_v1 (ix3 p (node v k) q)) (Fin.ext ?_) (Fin.ext ?_)
  · show 2 * ((96 * d.val + (12 * b.val + l.val)) / 12 % 8) + (96 * d.val + (12 * b.val + l.val)) / 12 / 8 = 2 * b.val + d.val
    omega
  · show (96 * d.val + (12 * b.val + l.val)) % 12 = l.val
    omega

/-! ## The array the region leaves -/

/-- What the region leaves in its result array. -/
def final (c : Dev nD) : S16x8192x12.Idx → Elt F .f32 := fun i =>
  outAt m c (8 * ((i 1).val / 1024) + 7) (ix3 (i 0) ⟨(i 1).val % 1024, Nat.mod_lt _ (by decide)⟩ (i 2))

/-- What a point that writes back writes is its block of `final`. -/
theorem flushed_eq (c : Dev nD) (t : Fin cfg0.N) (h : (cfg0.win 3).flush t = true) :
    (dats m 0 c).flushed 3 t = ((cfg0.win 3).blk t).view.read (Elt F) (final m c) := by
  rw [flush0_3] at h
  have hi := idx3 t
  show (cfg0.win 3).cut (grid0.coords t) ((dats m 0 c).after 3 t) = _
  rw [after_3]
  funext y
  rw [View.read_apply]
  have h0 : (((cfg0.win 3).blk t).view.emb y 0).val = (y 0).val := by
    show win0_3.index t 0 * 16 + 1 * (y 0).val = _; rw [hi.1]; omega
  have h1 : (((cfg0.win 3).blk t).view.emb y 1).val = t.val / 8 * 1024 + (y 1).val := by
    show win0_3.index t 1 * 1024 + 1 * (y 1).val = _; rw [hi.2.1]; omega
  have h2 : (((cfg0.win 3).blk t).view.emb y 2).val = (y 2).val := by
    show win0_3.index t 2 * 12 + 1 * (y 2).val = _; rw [hi.2.2]; omega
  have hy : (y 1).val < 1024 := (y 1).isLt
  unfold final
  show outAt m c t.val _ = _
  refine congr (congrArg (outAt m c) ?_) (funext fun a => Fin.ext ?_)
  · rw [h1]; omega
  · match a with
    | ⟨0, _⟩ => exact h0.symm
    | ⟨1, _⟩ => show (y 1).val = _ % 1024; rw [h1]; omega
    | ⟨2, _⟩ => exact h2.symm

/-- Every entry of the result array is in a block written back. -/
theorem cover (i : S16x8192x12.Idx) : ∃ t : Fin cfg0.N, (cfg0.win 3).flush t = true ∧ i ∈ ((cfg0.win 3).blk t).view.set := by
  have h0 : (i 0).val < 16 := (i 0).isLt
  have h1 : (i 1).val < 8192 := (i 1).isLt
  have h2 : (i 2).val < 12 := (i 2).isLt
  have e := pt_of (8 * ((i 1).val / 1024) + 7) (by omega)
  have hi := idx3 (pt (8 * ((i 1).val / 1024) + 7))
  rw [e] at hi
  refine ⟨pt (8 * ((i 1).val / 1024) + 7), by rw [flush0_3, e]; omega, ?_⟩
  rw [show ((cfg0.win 3).blk (pt (8 * ((i 1).val / 1024) + 7))).view.set = (win0_3.rect (pt (8 * ((i 1).val / 1024) + 7))).set from View.set_slice_whole _ _]
  refine Rect.mem_set_unit.mpr ?_
  intro a
  match a with
  | ⟨0, _⟩ => show win0_3.index _ 0 * 16 ≤ (i 0).val ∧ (i 0).val < win0_3.index _ 0 * 16 + 16; rw [hi.1]; omega
  | ⟨1, _⟩ => show win0_3.index _ 1 * 1024 ≤ (i 1).val ∧ (i 1).val < win0_3.index _ 1 * 1024 + 1024; rw [hi.2.1]; omega
  | ⟨2, _⟩ => show win0_3.index _ 2 * 12 ≤ (i 2).val ∧ (i 2).val < win0_3.index _ 2 * 12 + 12; rw [hi.2.2]; omega

/-- So the region leaves its result array at `final`. -/
theorem final_eq (c : Dev nD) : (dats m 0 c).arrAt 3 cfg0.N = final m c :=
  (dats m 0 c).arrAt_eq_of_cover 3 (final m c) (flushed_eq m c) cover

end Cert.KernelIdeal.Body
-- ==== Proof.Value.lean ====
module

public import proofs.«01_k».proof.Proof.Blocks
public import Idealize.ShloMosaic.Lib.Pointwise.Sums

@[expose] public section

set_option maxRecDepth 16384

noncomputable section

namespace Cert.KernelIdeal.Body

open Cert.KernelIdeal Cert.KernelIdeal.Gen
open Idealize.ShloMosaic Idealize.ShloMosaic.TcCoe Idealize.SL.Sem
open Idealize.ShloMosaic.Pipeline (Dat)
open scoped BigOperators

/-! ## The result as plain mathematics -/

/-- The imputed channel `d` of member `b` at time `l`, summed over the nodes with the weights of the adjacency's column `i`. -/
def spread (X : S8x2x8192x12.Idx → EReal) (A : S1x8192x8192.Idx → EReal) (b : Fin 8) (d : Fin 2) (i : Fin 8192) (l : Fin 12) : EReal :=
  ∑ v : Fin 8192, imp (X (ix4 b d v l)) * A (ix3 0 v i)

/-- The imputed or, where the entry is missing, the mixed value. -/
def answer (X : S8x2x8192x12.Idx → EReal) (A : S1x8192x8192.Idx → EReal) (W : S2x4.Idx → EReal) (B : S2.Idx → EReal)
    (b : Fin 8) (o : Fin 2) (i : Fin 8192) (l : Fin 12) : EReal :=
  Scalar.select (missing (X (ix4 b o i l)))
    (W (ix2 o 0) * imp (X (ix4 b 0 i l)) + W (ix2 o 1) * imp (X (ix4 b 1 i l)) + W (ix2 o 2) * spread X A b 0 i l + W (ix2 o 3) * spread X A b 1 i l + B (ix1 o))
    (imp (X (ix4 b o i l)))

section
variable (m : (ℓ : Loc nD τ sig) → Buf (Elt Ideal) ℓ)

/-! ## The accumulator -/

/-- After point `8 w + j` the accumulator holds the contributions of the chunks up to `j`. -/
theorem accAt_sum (c : Dev nD) (w : ℕ) (r : Fin 192) (k : Fin 1024) (j : ℕ) (hj : j < 8) :
    accAt m c (8 * w + j) (ix2 r k) = ∑ v ∈ Finset.range (j + 1), contrib (chunk m c v) (iblk m c 1 (pt (8 * w + v))) r k := by
  induction j with
  | zero =>
    rw [accAt_start m c _ (by omega), show (8 * w + 0) % 8 = 0 by omega]
    exact (pay2_apply _ _ r k).trans (Finset.sum_range_one (fun v => contrib (chunk m c v) (iblk m c 1 (pt (8 * w + v))) r k)).symm
  | succ j ih =>
    rw [accAt_add m c _ (by omega), show (8 * w + (j + 1)) % 8 = j + 1 by omega, show 8 * w + (j + 1) - 1 = 8 * w + j by omega]
    refine (pay3_apply _ _ _ r k).trans ?_
    rw [ih (by omega), Finset.sum_range_succ _ (j + 1)]

/-- At the last column the accumulator holds the whole product. -/
theorem accAt_last (c : Dev nD) (w : Fin 8) (d : Fin 2) (b : Fin 8) (l : Fin 12) (k : Fin 1024) :
    accAt m c (8 * w.val + 7) (ix2 (at_ d (place b l)) k) = spread (argX m c) (argA m c) b d (node w k) l := by
  refine (accAt_sum m c w.val _ k 7 (by decide)).trans ((Finset.sum_range _).trans ?_)
  refine Eq.trans ?_ (Fin.sum_univ_tiles 8 1024 (show 8 * 1024 = 8192 by decide) (fun v => imp (argX m c (ix4 b d v l)) * argA m c (ix3 0 v (node w k)))).symm
  refine Finset.sum_congr rfl fun v _ => Finset.sum_congr rfl fun n _ => ?_
  show imp (chunk m c v.val (ix3 0 (at_ d (place b l)) n)) * iblk m c 1 (pt (8 * w.val + v.val)) (ix2 n k) = _
  rw [chunk_apply, blk_a, V_a_apply]
  rfl

/-! ## The result -/

/-- The row of a flattened member at a time is its channel's row at the member's place. -/
theorem orow_flat (b : Fin 8) (d : Fin 2) (l : Fin 12) (h) : (⟨orow (flat b d) + l.val, h⟩ : Fin 192) = at_ d (place b l) := by
  have hd := d.isLt
  refine Fin.ext ?_
  show 96 * ((2 * b.val + d.val) % 2) + 12 * ((2 * b.val + d.val) / 2) + l.val = 96 * d.val + (12 * b.val + l.val)
  omega

/-- The first half holds the first channel. -/
theorem lo_eq (q : Fin 96) : lo q = at_ 0 q := Fin.ext (Nat.zero_add _).symm
/-- The second half holds the second channel. -/
theorem hi_eq (q : Fin 96) : hi q = at_ 1 q := rfl

/-- What the last point of row `w` stores, read. -/
theorem outAt_apply (c : Dev nD) (w : Fin 8) (b : Fin 8) (o : Fin 2) (k : Fin 1024) (l : Fin 12) :
    outAt m c (8 * w.val + 7) (ix3 (flat b o) k l) = answer (argX m c) (argA m c) (argW m c) (argB m c) b o (node w k) l := by
  unfold outAt
  rw [outVal_apply, orow_flat, show (8 * w.val + 7) / 8 = w.val by omega]
  refine (mix_apply _ _ _ o (place b l) k).trans ?_
  unfold gcn answer
  rw [lo_eq, hi_eq, accAt_last, accAt_last, chunk_apply, chunk_apply, chunk_apply, blk_p, blk_p, blk_p, blk_p, blk_p, V_p_bias,
    show V m c main_v3 (ix2 o 0) = argW m c (ix2 o 0) from V_p_weight m c o 0, show V m c main_v3 (ix2 o 1) = argW m c (ix2 o 1) from V_p_weight m c o 1,
    show V m c main_v3 (ix2 o 2) = argW m c (ix2 o 2) from V_p_weight m c o 2, show V m c main_v3 (ix2 o 3) = argW m c (ix2 o 3) from V_p_weight m c o 3]

/-- The result buffer's contents: the region's result array, its batch and channels apart. -/
def result (c : Dev nD) : S8x2x8192x12.Idx → EReal := shapeCast S8x2x8192x12 (final m c) shapeCasts_S16x8192x12_S8x2x8192x12

/-- The result buffer at an index is the plain formula. -/
theorem result_apply (c : Dev nD) (b : Fin 8) (o : Fin 2) (i : Fin 8192) (l : Fin 12) :
    result m c (ix4 b o i l) = answer (argX m c) (argA m c) (argW m c) (argB m c) b o i l := by
  have hi := i.isLt
  refine (shapeCast_apply _ _ _ (ix3 (flat b o) i l) ?_).trans ?_
  · rw [Shape.rowMajor_val_four, Shape.rowMajor_val_three]
    show ((2 * b.val + o.val) * 8192 + i.val) * 12 + l.val = ((b.val * 2 + o.val) * 8192 + i.val) * 12 + l.val
    rw [Nat.mul_comm b.val 2]
  refine (outAt_apply m c ⟨i.val / 1024, by omega⟩ b o ⟨i.val % 1024, Nat.mod_lt _ (by decide)⟩ l).trans ?_
  refine congrArg (fun i => answer (argX m c) (argA m c) (argW m c) (argB m c) b o i l) (Fin.ext ?_)
  show i.val / 1024 * 1024 + i.val % 1024 = i.val
  omega

/-- The lines after the region leave the result buffer at that. -/
theorem W_result (c : Dev nD) : Pipeline.afterTail₀ cfgs (dats m) 0 (V0 m) [hostOps1] c main_v5 = result m c := by
  unfold Pipeline.afterTail₀ result
  rw [← final_eq]
  after_results
  refine congrArg (fun X => shapeCast S8x2x8192x12 X shapeCasts_S16x8192x12_S8x2x8192x12) ?_
  exact Pipeline.withArrays_arr spec0 launch0.win.arr_inj c (V0 m c) (fun w => (dats m 0 c).arrAt w cfg0.N) 3

/-- Every execution of the kernel ends with the result buffer at `result` and the arguments unchanged. -/
theorem run_value (ρ : Dev nD → PrngReg) : θ_run defs (onTc (τ := τ) (main (F := Ideal))) ⟨m, fun _ => 0, ρ⟩ fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun _ h c => ⟨((h.1.1 c).2 main_v5 (Pipeline.mem_restRefs_of main_v5 (by decide) (by decide))).trans (W_result m c), h.2.1 c⟩)
    (θ_run_and (run_quiescent m ρ) (frame m ρ))

end

end Cert.KernelIdeal.Body
-- ==== Proof.Ref.lean ====
module

public import proofs.«01_k».proof.Proof.Value
public import proofs.«01_k».proof.Proof.Gen.ReferenceIdeal.Run
public import Idealize.ShloMosaic.Lib.Pointwise

@[expose] public section

set_option maxRecDepth 16384

noncomputable section

namespace Cert.ReferenceIdeal.Plain

open Cert.ReferenceIdeal Cert.ReferenceIdeal.Gen
open Idealize.ShloMosaic Idealize.ShloMosaic.TcCoe Idealize.SL.Sem
open Cert.KernelIdeal.Body (missing imp spread answer)
open scoped BigOperators

variable (X : FVec Ideal S8x2x8192x12 .f32) (A : FVec Ideal S1x8192x8192 .f32) (W : FVec Ideal S2x4 .f32) (B : FVec Ideal S2 .f32)

/-! ## The reference's result, step by step -/

/-- Which entries are missing. -/
def mask : S8x2x8192x12.Idx → BitVec 1 := cmpf .oeq X (broadcastInDim S8x2x8192x12 ![] bcast_S_S8x2x8192x12 (constant S_ .f32 0xFF800000#32))
/-- The argument with zero where an entry is missing. -/
def imputed : FVec Ideal S8x2x8192x12 .f32 := select (mask X) (broadcastInDim S8x2x8192x12 ![] bcast_S_S8x2x8192x12 (id (constant S_ .f32 0x00000000#32))) X
/-- The product of the adjacency with the imputed argument, the node first. -/
def product : FVec Ideal S8192x8x2x12 .f32 :=
  Host.dotGeneral dot_S8192x8192_S8x2x8192x12_S8192x8x2x12_0_2_1_013_n_n none (shapeCast S8192x8192 A shapeCasts_S1x8192x8192_S8192x8192) (imputed X)
/-- The four features of a node: the two imputed channels and the two products. -/
def features : FVec Ideal S8x4x8192x12 .f32 :=
  concatenate S8x4x8192x12 1 [⟨S8x2x8192x12, imputed X⟩, ⟨S8x2x8192x12, transpose S8x2x8192x12 [1, 2, 0, 3] (product X A) transposes_S8192x8x2x12_S8x2x8192x12_1_2_0_3⟩] concatenates_S8x2x8192x12_S8x2x8192x12_S8x4x8192x12_d1
/-- The features mixed by the weights, without the bias. -/
def mixed : FVec Ideal S8x8192x12x2 .f32 :=
  Host.dotGeneral dot_S8x8192x12x4_S4x2_S8x8192x12x2_3_0_012_1_n_n none (transpose S8x8192x12x4 [0, 2, 3, 1] (features X A) transposes_S8x4x8192x12_S8x8192x12x4_0_2_3_1) (transpose S4x2 [1, 0] W transposes_S2x4_S4x2_1_0)
/-- The bias at every node. -/
def bias : FVec Ideal S8x8192x12x2 .f32 :=
  broadcastInDim S8x8192x12x2 ![0, 1, 2, 3] bcast_S1x1x1x2_S8x8192x12x2_0_1_2_3 (broadcastInDim S1x1x1x2 ![3] bcast_S2_S1x1x1x2_3 B)
/-- The reference's result. -/
def plain : FVec Ideal S8x2x8192x12 .f32 :=
  select (mask X) (transpose S8x2x8192x12 [0, 3, 1, 2] (addf (mixed X A W) (bias B)) transposes_S8x8192x12x2_S8x2x8192x12_0_3_1_2) (imputed X)

/-- The mask at an index. -/
theorem mask_apply (b : Fin 8) (d : Fin 2) (i : Fin 8192) (l : Fin 12) : mask X (ix4 b d i l) = missing (X (ix4 b d i l)) := rfl

/-- The imputed argument at an index. -/
theorem imputed_apply (b : Fin 8) (d : Fin 2) (i : Fin 8192) (l : Fin 12) : imputed X (ix4 b d i l) = imp (X (ix4 b d i l)) := by
  show Scalar.select (missing (X (ix4 b d i l))) (Ideal.ofBits .f32 0x00000000#32) (X (ix4 b d i l)) = _
  rw [Ideal.ofBits_zero_f32]
  rfl

/-- The product at an index: one sum over the nodes. -/
theorem product_apply (b : Fin 8) (d : Fin 2) (i : Fin 8192) (l : Fin 12) : product X A (ix4 i b d l) = spread X A b d i l := by
  pointwise [product]
  exact Finset.sum_congr rfl fun v _ => (mul_comm _ _).trans (congrArg (· * A (ix3 0 v i)) (imputed_apply X b d v l))

/-- The first two features are the imputed channels. -/
theorem features_lo (b : Fin 8) (d : Fin 2) (i : Fin 8192) (l : Fin 12) : features X A (ix4 b (d.castLE (by decide)) i l) = imp (X (ix4 b d i l)) := by
  rw [← imputed_apply]
  exact concatenate_pair_apply_left (t := S8x4x8192x12) (s₁ := S8x2x8192x12) (s₂ := S8x2x8192x12) 1 _ _ _ (ix4 b (d.castLE (by decide)) i l) rfl (ix4 b d i l)
    fun a => by match a with | 0 => rfl | 1 => rfl | 2 => rfl | 3 => rfl

/-- The last two features are the products. -/
theorem features_hi (b : Fin 8) (d : Fin 2) (i : Fin 8192) (l : Fin 12) : features X A (ix4 b (Fin.natAdd 2 d) i l) = spread X A b d i l := by
  rw [← product_apply]
  refine (concatenate_pair_apply_right (t := S8x4x8192x12) (s₁ := S8x2x8192x12) (s₂ := S8x2x8192x12) 1 _ _ _ (ix4 b (Fin.natAdd 2 d) i l) rfl rfl (ix4 b d i l)
    (fun a => by match a with | 0 => exact fun _ => rfl | 1 => exact fun h => absurd rfl h | 2 => exact fun _ => rfl | 3 => exact fun _ => rfl) (Nat.add_comm _ _)).trans ?_
  exact transpose_apply _ _ _ _ _ fun a => by match a with | 0 => rfl | 1 => rfl | 2 => rfl | 3 => rfl

/-- The mix at an index: the sum over the four features. -/
theorem mixed_apply (b : Fin 8) (o : Fin 2) (i : Fin 8192) (l : Fin 12) :
    mixed X A W (ix4 b i l o) = ∑ q : Fin 4, features X A (ix4 b q i l) * W (ix2 o q) := by
  pointwise [mixed]

/-- The bias at an index. -/
theorem bias_apply (b : Fin 8) (o : Fin 2) (i : Fin 8192) (l : Fin 12) : bias B (ix4 b i l o) = B (ix1 o) := by
  pointwise [bias]

/-- The reference's result at an index is the plain formula. -/
theorem plain_apply (b : Fin 8) (o : Fin 2) (i : Fin 8192) (l : Fin 12) : plain X A W B (ix4 b o i l) = answer X A W B b o i l := by
  have e : transpose S8x2x8192x12 [0, 3, 1, 2] (addf (mixed X A W) (bias B)) transposes_S8x8192x12x2_S8x2x8192x12_0_3_1_2 (ix4 b o i l)
      = mixed X A W (ix4 b i l o) + bias B (ix4 b i l o) :=
    transpose_apply _ _ _ _ _ fun a => by match a with | 0 => rfl | 1 => rfl | 2 => rfl | 3 => rfl
  show Scalar.select (mask X (ix4 b o i l)) (transpose S8x2x8192x12 [0, 3, 1, 2] (addf (mixed X A W) (bias B)) transposes_S8x8192x12x2_S8x2x8192x12_0_3_1_2 (ix4 b o i l))
    (imputed X (ix4 b o i l)) = _
  rw [e, mask_apply, imputed_apply, mixed_apply, bias_apply, Fin.sum_univ_four,
    show features X A (ix4 b 0 i l) = _ from features_lo X A b 0 i l, show features X A (ix4 b 1 i l) = _ from features_lo X A b 1 i l,
    show features X A (ix4 b 2 i l) = _ from features_hi X A b 0 i l, show features X A (ix4 b 3 i l) = _ from features_hi X A b 1 i l]
  unfold answer
  rw [mul_comm (imp _) (W (ix2 o 0)), mul_comm (imp _) (W (ix2 o 1)), mul_comm (spread ..) (W (ix2 o 2)), mul_comm (spread ..) (W (ix2 o 3))]

/-- Every execution of the reference ends with its result buffer at `plain` of the arguments and the arguments unchanged. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14)
        = plain (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.ReferenceIdeal.Value.run (F := Ideal) m ρ

end Cert.ReferenceIdeal.Plain
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frame
public import proofs.«01_k».proof.Proof.Transfer
public import proofs.«01_k».proof.Proof.Value
public import proofs.«01_k».proof.Proof.Ref
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The kernel runs, its four arguments end unchanged and every counter ends at zero: the idealized text is the kernel's own,
    and its run was proved at any instance of the floats. -/
theorem frame_kernel : Cert.quiescent_Kernel (hKernel := Cert.Kernel.Gen.facts) :=
  fun m ρ _ => Cert.Kernel.Body.frame (F := Bits) m ρ

/-- The same of the kernel read over the extended reals. -/
theorem frame_ideal : Cert.quiescent_KernelIdeal (hKernelIdeal := Cert.KernelIdeal.Gen.facts) :=
  fun m ρ _ => Cert.KernelIdeal.Body.frame (F := Ideal) m ρ

/-- The same of the reference, which has no counter at all. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Both results are the same function of the four arguments, entry by entry. -/
theorem results_eq (m : (ℓ : Loc Cert.KernelIdeal.nD Cert.KernelIdeal.τ Cert.KernelIdeal.sig) → Buf (Elt Ideal) ℓ) (c : Dev Cert.KernelIdeal.nD) :
    Cert.ReferenceIdeal.Plain.plain (Cert.KernelIdeal.Body.argX m c) (Cert.KernelIdeal.Body.argA m c) (Cert.KernelIdeal.Body.argW m c) (Cert.KernelIdeal.Body.argB m c)
      = Cert.KernelIdeal.Body.result m c := by
  funext i
  rw [show i = ix4 (i 0) (i 1) (i 2) (i 3) from funext fun a => by match a with | 0 => rfl | 1 => rfl | 2 => rfl | 3 => rfl]
  exact (Cert.ReferenceIdeal.Plain.plain_apply _ _ _ _ _ _ _ _).trans (Cert.KernelIdeal.Body.result_apply m c _ _ _ _).symm

/-- Over the extended reals the kernel and the reference, run on the same arguments, end with the same result. -/
theorem algebraic : Cert.algebraic_KernelIdeal_ReferenceIdeal (hKernelIdeal := Cert.KernelIdeal.Gen.facts) (hReferenceIdeal := Cert.ReferenceIdeal.Gen.facts) := by
  intro m ρ m' ρ' _ hagree
  refine ⟨fun c => Cert.KernelIdeal.Body.result m c, Cert.KernelIdeal.Body.run_value m ρ, ?_⟩
  refine (θ_run Cert.ReferenceIdeal.defs _ _).mono (fun _ h c => ⟨(h c).1.trans ?_, (h c).2⟩) (Cert.ReferenceIdeal.Plain.run_value m' ρ')
  rw [(hagree c).1, (hagree c).2.1, (hagree c).2.2.1, (hagree c).2.2.2]
  exact results_eq m c

/-- All five claims. -/
theorem claim : Cert.Claim := ⟨Cert.Kernel.Gen.facts, Cert.KernelIdeal.Gen.facts, Cert.ReferenceIdeal.Gen.facts,
  frame_kernel, frame_ideal, frame_reference, trivial, algebraic⟩

end Cert.Proof

end
